-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x2048x2048 : Shape := ⟨3, ![8, 2048, 2048]⟩
abbrev S8x2048 : Shape := ⟨2, ![8, 2048]⟩
abbrev S2048x2048 : Shape := ⟨2, ![2048, 2048]⟩
abbrev S_ : Shape := ⟨0, ![]⟩
abbrev S8x2047 : Shape := ⟨2, ![8, 2047]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel
  slices_S8x2048_S8x2047_0_1 : S8x2048.Slices ![0, 1] S8x2047
  bcast_S_S8x2047 : S_.BroadcastsInDim S8x2047 (![] : Fin 0 → Fin S8x2047.rank)
  reducesTo_S8x2047_S_d0_1 : S8x2047.ReducesTo [0, 1] S_

variable [Facts]

def fn {F : FTy → Type} [FloatOps F] (main_arg0 : FVec F S8x2048x2048 .f32) (main_arg1 : FVec F S8x2048x2048 .f32) (main_arg2 : FVec F S8x2048 .f32) (main_arg3 : IVec S8x2048 32) (main_arg4 : IVec S8x2048 1) (main_arg5 : FVec F S2048x2048 .f32) : IVec S_ 1 :=
  let main_cst : FVec F S_ .f32 := constant S_ .f32 0xFF800000#32
  let main_v0 : FVec F S8x2048 .f32 := broadcastInDim S8x2048 ![] bcast_S_S8x2048 main_cst
  let main_v1 : IVec S8x2048 1 := cmpf .ogt main_arg2 main_v0
  let main_cst_0 : FVec F S_ .f32 := constant S_ .f32 0x7F800000#32
  let main_v2 : FVec F S8x2048 .f32 := broadcastInDim S8x2048 ![] bcast_S_S8x2048 main_cst_0
  let main_v3 : IVec S8x2048 1 := cmpf .olt main_arg2 main_v2
  let main_v4 : IVec S8x2048 1 := andi main_v1 main_v3
  let main_c : IVec S_ 1 := constantI S_ 1 1#1
  let main_v5 : IVec S_ 1 := (fun x v => Host.reduce IntOp.andi x v reducesTo_S8x2048_S_d0_1 h_S_) main_v4 main_c
  let main_v6 : IVec S8x2047 32 := (extractStridedSlice S8x2047 ![0, 1] · slices_S8x2048_S8x2047_0_1) main_arg3
  let main_c_1 : IVec S_ 32 := constantI S_ 32 0#32
  let main_v7 : IVec S8x2047 32 := broadcastInDim S8x2047 ![] bcast_S_S8x2047 main_c_1
  let main_v8 : IVec S8x2047 1 := cmpi .sge main_v6 main_v7
  let main_c_2 : IVec S_ 1 := constantI S_ 1 1#1
  let main_v9 : IVec S_ 1 := (fun x v => Host.reduce IntOp.andi x v reducesTo_S8x2047_S_d0_1 h_S_) main_v8 main_c_2
  let main_v10 : IVec S_ 1 := andi main_v5 main_v9
  let main_v11 : IVec S8x2047 1 := (extractStridedSlice S8x2047 ![0, 1] · slices_S8x2048_S8x2047_0_1) main_arg4
  let main_c_3 : IVec S_ 1 := constantI S_ 1 1#1
  let main_v12 : IVec S_ 1 := (fun x v => Host.reduce IntOp.andi x v reducesTo_S8x2047_S_d0_1 h_S_) main_v11 main_c_3
  let main_v13 : IVec S_ 1 := andi main_v10 main_v12
  main_v13
-- ==== Kernel.lean ====
abbrev S8x2048x2048 : Shape := ⟨3, ![8, 2048, 2048]⟩
abbrev S8x2048 : Shape := ⟨2, ![8, 2048]⟩
abbrev S2048x2048 : Shape := ⟨2, ![2048, 2048]⟩
abbrev S8x1x2048 : Shape := ⟨3, ![8, 1, 2048]⟩
abbrev S8x2048x1 : Shape := ⟨3, ![8, 2048, 1]⟩
abbrev S1x1x2048 : Shape := ⟨3, ![1, 1, 2048]⟩
abbrev S1x2048x1 : Shape := ⟨3, ![1, 2048, 1]⟩
abbrev S2048x1 : Shape := ⟨2, ![2048, 1]⟩
abbrev S1x2048 : Shape := ⟨2, ![1, 2048]⟩
abbrev S256x2048 : Shape := ⟨2, ![256, 2048]⟩
abbrev S256x1 : Shape := ⟨2, ![256, 1]⟩
abbrev S2048 : Shape := ⟨1, ![2048]⟩
abbrev S1x256 : Shape := ⟨2, ![1, 256]⟩
abbrev S256 : Shape := ⟨1, ![256]⟩
abbrev S1x256x1 : Shape := ⟨3, ![1, 256, 1]⟩
abbrev S1x1x512 : Shape := ⟨3, ![1, 1, 512]⟩
abbrev S1x1024x1 : Shape := ⟨3, ![1, 1024, 1]⟩
abbrev S1x512x2048 : Shape := ⟨3, ![1, 512, 2048]⟩
abbrev S1x1024x512 : Shape := ⟨3, ![1, 1024, 512]⟩
abbrev S1x1024x2048 : Shape := ⟨3, ![1, 1024, 2048]⟩
abbrev S1024x1 : Shape := ⟨2, ![1024, 1]⟩
abbrev S1x512 : Shape := ⟨2, ![1, 512]⟩
abbrev S1024x512 : Shape := ⟨2, ![1024, 512]⟩
abbrev S512x2048 : Shape := ⟨2, ![512, 2048]⟩
abbrev S1024x2048 : Shape := ⟨2, ![1024, 2048]⟩
abbrev S2048x512 : Shape := ⟨2, ![2048, 512]⟩

abbrev nBuf : Space → Nat
  | .hbm => 15
  | .vmem => 29
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048, .f32⟩
  | .hbm, ⟨3, _⟩ => ⟨S8x2048, .i32⟩
  | .hbm, ⟨4, _⟩ => ⟨S8x2048, .i1⟩
  | .hbm, ⟨5, _⟩ => ⟨S2048x2048, .f32⟩
  | .hbm, ⟨6, _⟩ => ⟨S8x1x2048, .f32⟩
  | .hbm, ⟨7, _⟩ => ⟨S8x2048x1, .f32⟩
  | .hbm, ⟨8, _⟩ => ⟨S8x1x2048, .i32⟩
  | .hbm, ⟨9, _⟩ => ⟨S8x1x2048, .f32⟩
  | .hbm, ⟨10, _⟩ => ⟨S8x1x2048, .f32⟩
  | .hbm, ⟨11, _⟩ => ⟨S8x2048x1, .f32⟩
  | .hbm, ⟨12, _⟩ => ⟨S8x2048x1, .f32⟩
  | .hbm, ⟨13, _⟩ => ⟨S2048x2048, .bf16⟩
  | .hbm, ⟨14, _⟩ => ⟨S8x2048x2048, .f32⟩
  | .local _ .vmem, ⟨0, _⟩ => ⟨S1x1x2048, .f32⟩
  | .local _ .vmem, ⟨1, _⟩ => ⟨S1x1x2048, .f32⟩
  | .local _ .vmem, ⟨2, _⟩ => ⟨S1x2048x1, .f32⟩
  | .local _ .vmem, ⟨3, _⟩ => ⟨S1x2048x1, .f32⟩
  | .local _ .vmem, ⟨4, _⟩ => ⟨S1x1x2048, .i32⟩
  | .local _ .vmem, ⟨5, _⟩ => ⟨S1x1x2048, .i32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048x1, .f32⟩
  | .local _ .vmem, ⟨11, _⟩ => ⟨S1x2048x1, .f32⟩
  | .local _ .vmem, ⟨12, _⟩ => ⟨S1x2048x1, .f32⟩
  | .local _ .vmem, ⟨13, _⟩ => ⟨S1x2048x1, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x1024x1, .f32⟩
  | .local _ .vmem, ⟨19, _⟩ => ⟨S1x1024x1, .f32⟩
  | .local _ .vmem, ⟨20, _⟩ => ⟨S1x1024x1, .f32⟩
  | .local _ .vmem, ⟨21, _⟩ => ⟨S1x1024x1, .f32⟩
  | .local _ .vmem, ⟨22, _⟩ => ⟨S1x512x2048, .f32⟩
  | .local _ .vmem, ⟨23, _⟩ => ⟨S1x512x2048, .f32⟩
  | .local _ .vmem, ⟨24, _⟩ => ⟨S1x1024x512, .f32⟩
  | .local _ .vmem, ⟨25, _⟩ => ⟨S1x1024x512, .f32⟩
  | .local _ .vmem, ⟨26, _⟩ => ⟨S2048x2048, .bf16⟩
  | .local _ .vmem, ⟨27, _⟩ => ⟨S1x1024x2048, .f32⟩
  | .local _ .vmem, ⟨28, _⟩ => ⟨S1x1024x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem7_0 : DmaSem sig := 27
abbrev cc1_sem7_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![8, 2, 4], ![false, false, false]⟩

def k1_off1 (i : grid1.Coords) : Fin 2 → Nat :=
  let c0_19 : Index := 0#32
  let arg2 : BitVec 32 := BitVec.ofNat 32 (i 2).val
  let c512_i32_18 : BitVec 32 := 512#32
  let v29 : BitVec 32 := Scalar.muli arg2 c512_i32_18
  let v30 : Index := Scalar.indexCast v29
  ![0, v30.toNat]
def k1_cond1 (i : grid1.Coords) : BitVec 1 :=
  let arg2 : BitVec 32 := BitVec.ofNat 32 (i 2).val
  let c0_i32 : BitVec 32 := 0#32
  let v35 : BitVec 1 := Scalar.cmpi .eq arg2 c0_i32
  let v36 : BitVec 32 := Scalar.extui v35
  let c0_i32_21 : BitVec 32 := 0#32
  let v37 : BitVec 1 := Scalar.cmpi .ne v36 c0_i32_21
  v37

def k1_cond2 (i : grid1.Coords) : BitVec 1 :=
  let arg2 : BitVec 32 := BitVec.ofNat 32 (i 2).val
  let c0_i32_22 : BitVec 32 := 0#32
  let v38 : BitVec 1 := Scalar.cmpi .ne arg2 c0_i32_22
  let v39 : BitVec 32 := Scalar.extui v38
  let c0_i32_23 : BitVec 32 := 0#32
  let v40 : BitVec 1 := Scalar.cmpi .ne v39 c0_i32_23
  v40

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S1x1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 1 → Memref sig .tc .vmem S2048x2048 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 2 → Memref sig .tc .vmem S1x1024x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]
-- ==== KernelIdeal.lean ====
variable {F : FTy → Type} [FloatOps F] [Named F]
def κ : String → Option EReal := fun
  | "mask" => some ⊥
  | _ => none
-- ==== ReferenceIdeal.lean ====
abbrev S8x2048x2048 : Shape := ⟨3, ![8, 2048, 2048]⟩
abbrev S8x2048 : Shape := ⟨2, ![8, 2048]⟩
abbrev S2048x2048 : Shape := ⟨2, ![2048, 2048]⟩
abbrev S_ : Shape := ⟨0, ![]⟩
abbrev S8x2048x1 : Shape := ⟨3, ![8, 2048, 1]⟩
abbrev S1 : Shape := ⟨1, ![1]⟩
abbrev S1x1x1 : Shape := ⟨3, ![1, 1, 1]⟩
abbrev S8x1x2048 : Shape := ⟨3, ![8, 1, 2048]⟩
abbrev S8x2047 : Shape := ⟨2, ![8, 2047]⟩
abbrev S8x2047x1 : Shape := ⟨3, ![8, 2047, 1]⟩
abbrev S8x2047x2048 : Shape := ⟨3, ![8, 2047, 2048]⟩
abbrev S2047x8 : Shape := ⟨2, ![2047, 8]⟩
abbrev S2047x8x2048 : Shape := ⟨3, ![2047, 8, 2048]⟩
abbrev S1x8 : Shape := ⟨2, ![1, 8]⟩
abbrev S8 : Shape := ⟨1, ![8]⟩
abbrev S1x8x2048 : Shape := ⟨3, ![1, 8, 2048]⟩
abbrev S8x1 : Shape := ⟨2, ![8, 1]⟩
abbrev S8x2048x2048x1 : Shape := ⟨4, ![8, 2048, 2048, 1]⟩
abbrev S1x1x1x1 : Shape := ⟨4, ![1, 1, 1, 1]⟩

abbrev nBuf : Space → Nat
  | .hbm => 136
  | .vmem => 0
  | .smem => 0
  | _ => 0

abbrev hbmTy0_0 (i : Nat) : BufTy := match i % 128 with
  | 0 => ⟨S8x2048x2048, .f32⟩
  | 1 => ⟨S8x2048x2048, .f32⟩
  | 2 => ⟨S8x2048, .f32⟩
  | 3 => ⟨S8x2048, .i32⟩
  | 4 => ⟨S8x2048, .i1⟩
  | 5 => ⟨S2048x2048, .f32⟩
  | 6 => ⟨S_, .i32⟩
  | 7 => ⟨S8x2048, .i32⟩
  | 8 => ⟨S8x2048, .i1⟩
  | 9 => ⟨S_, .i32⟩
  | 10 => ⟨S8x2048, .i32⟩
  | 11 => ⟨S8x2048, .i32⟩
  | 12 => ⟨S8x2048, .i32⟩
  | 13 => ⟨S8x2048x1, .i32⟩
  | 14 => ⟨S1, .i32⟩
  | 15 => ⟨S_, .i32⟩
  | 16 => ⟨S8x2048x1, .i32⟩
  | 17 => ⟨S8x2048x1, .i1⟩
  | 18 => ⟨S1x1x1, .i32⟩
  | 19 => ⟨S8x2048x1, .i32⟩
  | 20 => ⟨S8x2048x1, .i1⟩
  | 21 => ⟨S8x2048x1, .i1⟩
  | 22 => ⟨S_, .i1⟩
  | 23 => ⟨S8x2048, .i1⟩
  | 24 => ⟨S8x2048, .f32⟩
  | 25 => ⟨S_, .f32⟩
  | 26 => ⟨S8x2048, .f32⟩
  | 27 => ⟨S8x2048, .f32⟩
  | 28 => ⟨S_, .f32⟩
  | 29 => ⟨S8x2048, .f32⟩
  | 30 => ⟨S8x2048, .f32⟩
  | 31 => ⟨S_, .f32⟩
  | 32 => ⟨S8x2048, .f32⟩
  | 33 => ⟨S8x2048, .f32⟩
  | 34 => ⟨S8x1x2048, .f32⟩
  | 35 => ⟨S8x2048, .f32⟩
  | 36 => ⟨S8x2047, .f32⟩
  | 37 => ⟨S_, .f32⟩
  | 38 => ⟨S8x2047, .f32⟩
  | 39 => ⟨S8x2047, .f32⟩
  | 40 => ⟨S_, .f32⟩
  | 41 => ⟨S8x2047, .f32⟩
  | 42 => ⟨S8x2047, .f32⟩
  | 43 => ⟨S8x2047x1, .f32⟩
  | 44 => ⟨S8x2047x2048, .f32⟩
  | 45 => ⟨S8x2047x2048, .f32⟩
  | 46 => ⟨S8x2047x2048, .f32⟩
  | 47 => ⟨S2047x8, .f32⟩
  | 48 => ⟨S2047x8x2048, .f32⟩
  | 49 => ⟨S_, .f32⟩
  | 50 => ⟨S2047x8x2048, .f32⟩
  | 51 => ⟨S_, .i32⟩
  | 52 => ⟨S2047x8, .f32⟩
  | 53 => ⟨S2047x8x2048, .f32⟩
  | 54 => ⟨S_, .i32⟩
  | 55 => ⟨S8x2048, .f32⟩
  | 56 => ⟨S2047x8x2048, .f32⟩
  | 57 => ⟨S_, .i32⟩
  | 58 => ⟨S_, .i1⟩
  | 59 => ⟨S_, .i32⟩
  | 60 => ⟨S1x8, .f32⟩
  | 61 => ⟨S8, .f32⟩
  | 62 => ⟨S_, .i32⟩
  | 63 => ⟨S_, .i32⟩
  | 64 => ⟨S1x8x2048, .f32⟩
  | 65 => ⟨S8x2048, .f32⟩
  | 66 => ⟨S8x1, .f32⟩
  | 67 => ⟨S8x2048, .f32⟩
  | 68 => ⟨S8x2048, .f32⟩
  | 69 => ⟨S8x2048, .f32⟩
  | 70 => ⟨S1x8x2048, .f32⟩
  | 71 => ⟨S_, .i32⟩
  | 72 => ⟨S_, .i32⟩
  | 73 => ⟨S2047x8x2048, .f32⟩
  | 74 => ⟨S_, .i32⟩
  | 75 => ⟨S_, .i32⟩
  | 76 => ⟨S8x1x2048, .f32⟩
  | 77 => ⟨S8x2047x2048, .f32⟩
  | 78 => ⟨S8x2048x2048, .f32⟩
  | 79 => ⟨S_, .f32⟩
  | 80 => ⟨S8x2048, .f32⟩
  | 81 => ⟨S8x2048, .i1⟩
  | 82 => ⟨S8x2048, .i32⟩
  | 83 => ⟨S_, .i32⟩
  | 84 => ⟨S_, .i32⟩
  | 85 => ⟨S8x2048, .i32⟩
  | 86 => ⟨S_, .i32⟩
  | 87 => ⟨S8x2048, .i32⟩
  | 88 => ⟨S8x2048, .i32⟩
  | 89 => ⟨S_, .i32⟩
  | 90 => ⟨S8x2048, .i32⟩
  | 91 => ⟨S8x2048, .i32⟩
  | 92 => ⟨S8x2048x1, .i32⟩
  | 93 => ⟨S8x2048x2048, .i32⟩
  | 94 => ⟨S_, .i32⟩
  | 95 => ⟨S8x2048x2048, .i32⟩
  | 96 => ⟨S8x2048x2048, .i1⟩
  | 97 => ⟨S_, .i32⟩
  | 98 => ⟨S8x2048x2048, .i32⟩
  | 99 => ⟨S8x2048x2048, .i32⟩
  | 100 => ⟨S8x2048x2048, .i32⟩
  | 101 => ⟨S8x2048x2048x1, .i32⟩
  | 102 => ⟨S1, .i32⟩
  | 103 => ⟨S_, .i32⟩
  | 104 => ⟨S8x2048x2048x1, .i32⟩
  | 105 => ⟨S8x2048x2048x1, .i1⟩
  | 106 => ⟨S1x1x1x1, .i32⟩
  | 107 => ⟨S8x2048x2048x1, .i32⟩
  | 108 => ⟨S8x2048x2048x1, .i1⟩
  | 109 => ⟨S8x2048x2048x1, .i1⟩
  | 110 => ⟨S_, .i1⟩
  | 111 => ⟨S8x2048x2048, .i1⟩
  | 112 => ⟨S8x2048x2048, .f32⟩
  | 113 => ⟨S_, .f32⟩
  | 114 => ⟨S8x2048x2048, .f32⟩
  | 115 => ⟨S8x2048x2048, .f32⟩
  | 116 => ⟨S8x2048, .f32⟩
  | 117 => ⟨S8x2048, .f32⟩
  | 118 => ⟨S_, .f32⟩
  | 119 => ⟨S8x2048, .f32⟩
  | 120 => ⟨S8x2048, .f32⟩
  | 121 => ⟨S_, .f32⟩
  | 122 => ⟨S8x2048, .f32⟩
  | 123 => ⟨S8x2048, .f32⟩
  | 124 => ⟨S8x2048, .f32⟩
  | 125 => ⟨S8x2048, .f32⟩
  | 126 => ⟨S_, .f32⟩
  | 127 => ⟨S8x2048, .f32⟩
  | _ => ⟨S8x2048x2048, .f32⟩

abbrev hbmTy0_1 (i : Nat) : BufTy := match i % 128 with
  | 0 => ⟨S8x2048, .f32⟩
  | 1 => ⟨S8x2048, .f32⟩
  | 2 => ⟨S8x2048x1, .f32⟩
  | 3 => ⟨S8x2048x2048, .f32⟩
  | 4 => ⟨S8x2048x2048, .f32⟩
  | 5 => ⟨S2048x2048, .f32⟩
  | 6 => ⟨S8x2048x2048, .f32⟩
  | 7 => ⟨S8x2048x2048, .f32⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_v2 : Ref sig .tc := ⟨.hbm, 30, rfl⟩
abbrev main_cst_0 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_1 : Ref sig .tc := ⟨.hbm, 37, rfl⟩
abbrev main_v8 : Ref sig .tc := ⟨.hbm, 38, rfl⟩
abbrev main_v9 : Ref sig .tc := ⟨.hbm, 39, rfl⟩
abbrev main_cst_2 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_3 : Ref sig .tc := ⟨.hbm, 49, rfl⟩
abbrev main_v18 : Ref sig .tc := ⟨.hbm, 50, rfl⟩
abbrev main_c : Ref sig .tc := ⟨.hbm, 51, rfl⟩
abbrev main_v19_0 : Ref sig .tc := ⟨.hbm, 52, rfl⟩
abbrev main_v19_1 : Ref sig .tc := ⟨.hbm, 53, rfl⟩
abbrev main_v19_2 : Ref sig .tc := ⟨.hbm, 54, rfl⟩
abbrev main_v19_3 : Ref sig .tc := ⟨.hbm, 55, rfl⟩
abbrev main_v19_4 : Ref sig .tc := ⟨.hbm, 56, rfl⟩
abbrev main_while0c_c_14 : Ref sig .tc := ⟨.hbm, 57, rfl⟩
abbrev main_while0c_v51 : Ref sig .tc := ⟨.hbm, 58, rfl⟩
abbrev main_while0b_call2_c : Ref sig .tc := ⟨.hbm, 59, rfl⟩
abbrev main_while0b_call2_v0 : Ref sig .tc := ⟨.hbm, 60, rfl⟩
abbrev main_while0b_v51 : Ref sig .tc := ⟨.hbm, 61, rfl⟩
abbrev main_while0b_call3_c : Ref sig .tc := ⟨.hbm, 62, rfl⟩
abbrev main_while0b_call3_c_0 : Ref sig .tc := ⟨.hbm, 63, rfl⟩
abbrev main_while0b_call3_v0 : Ref sig .tc := ⟨.hbm, 64, rfl⟩
abbrev main_while0b_v52 : Ref sig .tc := ⟨.hbm, 65, rfl⟩
abbrev main_while0b_v53 : Ref sig .tc := ⟨.hbm, 66, rfl⟩
abbrev main_while0b_v54 : Ref sig .tc := ⟨.hbm, 67, rfl⟩
abbrev main_while0b_v55 : Ref sig .tc := ⟨.hbm, 68, rfl⟩
abbrev main_while0b_v56 : Ref sig .tc := ⟨.hbm, 69, rfl⟩
abbrev main_while0b_call4_v0 : Ref sig .tc := ⟨.hbm, 70, rfl⟩
abbrev main_while0b_call4_c : Ref sig .tc := ⟨.hbm, 71, rfl⟩
abbrev main_while0b_call4_c_0 : Ref sig .tc := ⟨.hbm, 72, rfl⟩
abbrev main_while0b_v57 : Ref sig .tc := ⟨.hbm, 73, rfl⟩
abbrev main_while0b_c_14 : Ref sig .tc := ⟨.hbm, 74, rfl⟩
abbrev main_while0b_v58 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_cst_4 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_call5_call0_c : Ref sig .tc := ⟨.hbm, 83, rfl⟩
abbrev main_call5_call0_v0 : Ref sig .tc := ⟨.hbm, 84, rfl⟩
abbrev main_v26 : Ref sig .tc := ⟨.hbm, 85, rfl⟩
abbrev main_c_5 : Ref sig .tc := ⟨.hbm, 86, rfl⟩
abbrev main_v27 : Ref sig .tc := ⟨.hbm, 87, rfl⟩
abbrev main_v28 : Ref sig .tc := ⟨.hbm, 88, rfl⟩
abbrev main_c_6 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_call6_c : Ref sig .tc := ⟨.hbm, 94, rfl⟩
abbrev main_call6_v0 : Ref sig .tc := ⟨.hbm, 95, rfl⟩
abbrev main_call6_v1 : Ref sig .tc := ⟨.hbm, 96, rfl⟩
abbrev main_call6_c_0 : Ref sig .tc := ⟨.hbm, 97, rfl⟩
abbrev main_call6_v2 : Ref sig .tc := ⟨.hbm, 98, rfl⟩
abbrev main_call6_v3 : Ref sig .tc := ⟨.hbm, 99, rfl⟩
abbrev main_call6_v4 : Ref sig .tc := ⟨.hbm, 100, rfl⟩
abbrev main_call6_v5 : Ref sig .tc := ⟨.hbm, 101, rfl⟩
abbrev main_call6_c_1 : Ref sig .tc := ⟨.hbm, 102, rfl⟩
abbrev main_call6_c_2 : Ref sig .tc := ⟨.hbm, 103, rfl⟩
abbrev main_call6_v6 : Ref sig .tc := ⟨.hbm, 104, rfl⟩
abbrev main_call6_v7 : Ref sig .tc := ⟨.hbm, 105, rfl⟩
abbrev main_call6_v8 : Ref sig .tc := ⟨.hbm, 106, rfl⟩
abbrev main_call6_v9 : Ref sig .tc := ⟨.hbm, 107, rfl⟩
abbrev main_call6_v10 : Ref sig .tc := ⟨.hbm, 108, rfl⟩
abbrev main_call6_v11 : Ref sig .tc := ⟨.hbm, 109, rfl⟩
abbrev main_call6_c_3 : Ref sig .tc := ⟨.hbm, 110, rfl⟩
abbrev main_call6_v12 : Ref sig .tc := ⟨.hbm, 111, rfl⟩
abbrev main_call6_v13 : Ref sig .tc := ⟨.hbm, 112, rfl⟩
abbrev main_call6_cst : Ref sig .tc := ⟨.hbm, 113, rfl⟩
abbrev main_call6_v14 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_cst_7 : Ref sig .tc := ⟨.hbm, 118, rfl⟩
abbrev main_v36 : Ref sig .tc := ⟨.hbm, 119, rfl⟩
abbrev main_v37 : Ref sig .tc := ⟨.hbm, 120, rfl⟩
abbrev main_cst_8 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_cst_9 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩

abbrev nD : Nat := 1
abbrev τ : Topo := Topo.v7x

variable {F : FTy → Type} [FloatOps F]

abbrev main_while0_count : Scf.Loop 32 := ⟨0#32, 2047#32, 1#32⟩
-- ==== Proof.IdealStage1.lean ====
/-
  The first kernel of the idealized program, at one grid point: what its body leaves in the four output buffers.

  The body loads the boundary probabilities of one batch twice (as a row and as a column) and the boundary positions,
  and stores, per batch, the gathered probabilities `p`, the prefix sums `s` of the log-decays, and in eight chunks of
  256 positions each the plug-back counts and the log-decay sums they select.
  `stage1_triple` runs the body once, at any grid coordinates and over any float values.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body loads and stores through -/

/-- A whole column block of 2048 entries. -/
abbrev rCol : Rect S1x2048x1 := Rect.unit (s := S1x2048x1) ![0, 0, 0] S1x2048x1.size inb_S1x2048x1_S1x2048x1_0_0_0
/-- A whole row block of 2048 entries. -/
abbrev rRow : Rect S1x1x2048 := Rect.unit (s := S1x1x2048) ![0, 0, 0] S1x1x2048.size inb_S1x1x2048_S1x1x2048_0_0_0
/-- The eight chunks of 256 entries of a column block. -/
abbrev rCh0 : Rect S1x2048x1 := Rect.unit (s := S1x2048x1) ![0, 0, 0] S1x256x1.size inb_S1x2048x1_S1x256x1_0_0_0
abbrev rCh1 : Rect S1x2048x1 := Rect.unit (s := S1x2048x1) ![0, 256, 0] S1x256x1.size inb_S1x2048x1_S1x256x1_0_256_0
abbrev rCh2 : Rect S1x2048x1 := Rect.unit (s := S1x2048x1) ![0, 512, 0] S1x256x1.size inb_S1x2048x1_S1x256x1_0_512_0
abbrev rCh3 : Rect S1x2048x1 := Rect.unit (s := S1x2048x1) ![0, 768, 0] S1x256x1.size inb_S1x2048x1_S1x256x1_0_768_0
abbrev rCh4 : Rect S1x2048x1 := Rect.unit (s := S1x2048x1) ![0, 1024, 0] S1x256x1.size inb_S1x2048x1_S1x256x1_0_1024_0
abbrev rCh5 : Rect S1x2048x1 := Rect.unit (s := S1x2048x1) ![0, 1280, 0] S1x256x1.size inb_S1x2048x1_S1x256x1_0_1280_0
abbrev rCh6 : Rect S1x2048x1 := Rect.unit (s := S1x2048x1) ![0, 1536, 0] S1x256x1.size inb_S1x2048x1_S1x256x1_0_1536_0
abbrev rCh7 : Rect S1x2048x1 := Rect.unit (s := S1x2048x1) ![0, 1792, 0] S1x256x1.size inb_S1x2048x1_S1x256x1_0_1792_0

/-! ## The values the body binds -/

/-- The lane number of a row of 2048, -/
def laneI : IVec S1x2048 32 := iota .tc S1x2048 32 [1] iota_S1x2048_d1_w32
/-- and the row number of a chunk of 256 rows. -/
def rowI : IVec S256x2048 32 := iota .tc S256x2048 32 [0] iota_S256x2048_d0_w32
/-- The boundary probabilities as a column, -/
def bpCol (x1 : Vec F S1x2048x1 .f32) : FVec F S2048x1 .f32 := k0_pay4 (View.ld x1 rCol)
/-- the boundary positions as a row, -/
def biRow (x2 : Vec F S1x1x2048 .i32) : IVec S1x2048 32 := k0_pay5 (F := F) (View.ld x2 rRow)
/-- and the gather's one-hot sum over the first chunks of positions. -/
def gathered (x1 : Vec F S1x2048x1 .f32) (x2 : Vec F S1x1x2048 .i32) : FVec F S1x2048 .f32 :=
  k0_pay7 (bpCol x1) (biRow (F := F) x2) (k0_pay6 (View.ld x1 rCol) (View.ld x2 rRow)) rowI
/-- The log-decays of the concepts, zero at the first one. -/
def logaRow (x1 : Vec F S1x2048x1 .f32) (x2 : Vec F S1x1x2048 .i32) : FVec F S1x2048 .f32 :=
  k0_pay9 (bpCol x1) (biRow (F := F) x2) laneI (gathered x1 x2) rowI
/-- The boundary mask as a row of zeros and ones, -/
def maskRow (x0 : Vec F S1x1x2048 .f32) : FVec F S1x2048 .f32 := k0_pay16 (View.ld x0 rRow)
/-- the lane numbers as floats, -/
def laneF : FVec F S1x2048 .f32 := k0_pay17 (F := F) laneI
/-- and the plug-back counts of the chunks 0 and 5, which the body binds. -/
def count0 (x0 : Vec F S1x1x2048 .f32) : FVec F S256x1 .f32 := k0_pay18 (View.ld x0 rRow)
def count5 (x0 : Vec F S1x1x2048 .f32) : FVec F S256x1 .f32 := k0_pay32 (maskRow x0)

/-! ## What the body leaves in each output buffer -/

/-- The gathered probabilities. -/
def outP (x1 : Vec F S1x2048x1 .f32) (x2 : Vec F S1x1x2048 .i32) : Vec F S1x1x2048 .f32 :=
  View.canon [⟨rRow, k0_pay10 (bpCol x1) (biRow (F := F) x2) laneI (gathered x1 x2) rowI⟩]
/-- The prefix sums of the log-decays. -/
def outS (x1 : Vec F S1x2048x1 .f32) (x2 : Vec F S1x1x2048 .i32) : Vec F S1x1x2048 .f32 :=
  View.canon [⟨rRow, k0_pay15 (logaRow x1 x2)
    (k0_pay13 (logaRow x1 x2) (k0_pay11 (bpCol x1) (biRow (F := F) x2) laneI (gathered x1 x2) rowI) rowI k0_pay12) rowI k0_pay14⟩]
/-- The log-decays summed up to each position's plug-back count, chunk by chunk. -/
def outU (x0 : Vec F S1x1x2048 .f32) (x1 : Vec F S1x2048x1 .f32) (x2 : Vec F S1x1x2048 .i32) : Vec F S1x2048x1 .f32 :=
  View.canon [⟨rCh7, k0_pay3 (logaRow x1 x2) (maskRow x0) laneF k0_pay42⟩,
    ⟨rCh6, k0_pay41 (logaRow x1 x2) (maskRow x0) laneF⟩,
    ⟨rCh5, k0_pay38 (k0_pay37 (logaRow x1 x2) (maskRow x0) laneF)⟩,
    ⟨rCh4, k0_pay34 (logaRow x1 x2) laneF (count5 x0)⟩,
    ⟨rCh3, k0_pay31 (logaRow x1 x2) (maskRow x0) laneF k0_pay28⟩,
    ⟨rCh2, k0_pay27 (logaRow x1 x2) (maskRow x0) laneF⟩,
    ⟨rCh1, k0_pay24 (k0_pay23 (logaRow x1 x2) (maskRow x0) laneF)⟩,
    ⟨rCh0, k0_pay20 (logaRow x1 x2) laneF (count0 x0)⟩]
/-- The plug-back counts, chunk by chunk. -/
def outPb (x0 : Vec F S1x1x2048 .f32) : Vec F S1x2048x1 .f32 :=
  View.canon [⟨rCh7, k0_pay2 (maskRow x0) k0_pay42⟩,
    ⟨rCh6, k0_pay40 (maskRow x0)⟩,
    ⟨rCh5, k0_pay36 (maskRow x0)⟩,
    ⟨rCh4, k0_pay33 (count5 x0)⟩,
    ⟨rCh3, k0_pay30 (maskRow x0) k0_pay28⟩,
    ⟨rCh2, k0_pay26 (maskRow x0)⟩,
    ⟨rCh1, k0_pay22 (maskRow x0)⟩,
    ⟨rCh0, k0_pay19 (count0 x0)⟩]

/-- One store through the whole row block covers it. -/
theorem cover_row (p0 : Vec F S1x1x2048 .f32) (y : S1x1x2048.Idx) :
    ∃ pc ∈ ([⟨rRow, p0⟩] : List (View.Piece (Elt F) S1x1x2048 .f32)), y ∈ pc.1.set :=
  View.cover_of_tiled [⟨rRow, p0⟩] S1x1x2048.size (by rfl) y
/-- The eight chunks cover a column block. -/
theorem cover_col (p0 p1 p2 p3 p4 p5 p6 p7 : Vec F S1x256x1 .f32) (y : S1x2048x1.Idx) :
    ∃ pc ∈ ([⟨rCh7, p0⟩, ⟨rCh6, p1⟩, ⟨rCh5, p2⟩, ⟨rCh4, p3⟩, ⟨rCh3, p4⟩, ⟨rCh2, p5⟩, ⟨rCh1, p6⟩, ⟨rCh0, p7⟩] :
      List (View.Piece (Elt F) S1x2048x1 .f32)), y ∈ pc.1.set :=
  View.cover_of_tiled [⟨rCh7, p0⟩, ⟨rCh6, p1⟩, ⟨rCh5, p2⟩, ⟨rCh4, p3⟩, ⟨rCh3, p4⟩, ⟨rCh2, p5⟩, ⟨rCh1, p6⟩, ⟨rCh0, p7⟩]
    S1x256x1.size (by rfl) y

/-! ## The body's triple -/

set_option maxHeartbeats 1000000 in
/-- The body on whole staging buffers, the inputs' at `x0`, `x1`, `x2` and the outputs' at anything, leaves the inputs'
    as they were and the outputs' at `outP`, `outS`, `outU`, `outPb` of the inputs. -/
theorem stage1_triple (c : Dev nD) (E : Set ℕ) (i : grid0.Coords)
    (arg1 : Memref sig .tc .vmem S1x1x2048 .f32) (harg1 : arg1.IsWhole) (arg2 : Memref sig .tc .vmem S1x2048x1 .f32) (harg2 : arg2.IsWhole)
    (arg3 : Memref sig .tc .vmem S1x1x2048 .i32) (harg3 : arg3.IsWhole) (arg4 : Memref sig .tc .vmem S1x1x2048 .f32) (harg4 : arg4.IsWhole)
    (arg5 : Memref sig .tc .vmem S1x1x2048 .f32) (harg5 : arg5.IsWhole) (arg6 : Memref sig .tc .vmem S1x2048x1 .f32) (harg6 : arg6.IsWhole)
    (arg7 : Memref sig .tc .vmem S1x2048x1 .f32) (harg7 : arg7.IsWhole)
    (x0 : Vec F S1x1x2048 .f32) (x1 : Vec F S1x2048x1 .f32) (x2 : Vec F S1x1x2048 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outP x1 x2) ∗ owns (c : Thread nD τ) arg5 fullShare (outS x1 x2)
            ∗ owns (c : Thread nD τ) arg6 fullShare (outU x0 x1 x2) ∗ owns (c : Thread nD τ) arg7 fullShare (outPb x0)) -∗ K ⟨⟩))
      ⊢ wp frame (wpE (defs₀ (F := F)) Variants.none c none) E
          (cc0__stage1_kernel i arg1 harg1 arg2 harg2 arg3 harg3 arg4 harg4 arg5 harg5 arg6 harg6 arg7 harg7) K := by
  simp only [cc0__stage1_kernel_eq_skeleton]; unfold cc0__stage1_kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover_row _)).trans ?_
    rfl
  isplitl [H4]
  · iexists _; isplitr
    swap; · iexact H4
    ipureintro
    refine (View.read_writes_eq_canon _ _ _ (cover_row _)).trans ?_
    rfl
  isplitl [H5]
  · iexists _; isplitr
    swap; · iexact H5
    ipureintro
    refine (View.read_writes_eq_canon _ _ _ (cover_col _ _ _ _ _ _ _ _)).trans ?_
    rfl
  iexists _; isplitr
  swap; · iexact H6
  ipureintro
  refine (View.read_writes_eq_canon _ _ _ (cover_col _ _ _ _ _ _ _ _)).trans ?_
  rfl

end Cert.KernelIdeal.Hand

end
-- ==== Proof.IdealStage2.lean ====
/-
  The second kernel of the idealized program, at one grid point: what its body leaves in the output buffer.

  At a grid point `(b, t, k)` the body forms the weighted sum of the `k`-th block of 512 concept tokens plus the `k`-th block
  of the projection of the encoder output (`addend`). At `k = 0` it stores it (`stage2_first`), at `k ≠ 0` it adds it to
  what the output buffer holds (`stage2_next`).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch conditions -/

/-- The point is the first of its run of four (`k = 0`), by arithmetic of the point; -/
theorem first_iff : ∀ t : Fin cfg1.N, k1_cond1 (grid1.coords t) = 1#1 ↔ t.val % 4 = 0 :=
  (fun t => by
    have ht : t.val < 64 := Nat.lt_of_lt_of_eq t.isLt N_1
    have e0 : (grid1.coords t 0).val = t.val / 8 % 8 := Pipeline.Grid.coords_val t 0 (by decide) rfl
    have e1 : (grid1.coords t 1).val = t.val / 4 % 2 := Pipeline.Grid.coords_val t 1 (by decide) rfl
    have e2 : (grid1.coords t 2).val = t.val / 1 % 4 := Pipeline.Grid.coords_val t 2 (by decide) rfl
    simp only [k1_cond1, e0, e1, e2]
    word_cmp
   : ∀ t : Fin grid1.N, k1_cond1 (grid1.coords t) = 1#1 ↔ t.val % 4 = 0)
/-- or one of the later three. -/
theorem next_iff : ∀ t : Fin cfg1.N, k1_cond2 (grid1.coords t) = 1#1 ↔ 1 ≤ t.val % 4 :=
  (fun t => by
    have ht : t.val < 64 := Nat.lt_of_lt_of_eq t.isLt N_1
    have e0 : (grid1.coords t 0).val = t.val / 8 % 8 := Pipeline.Grid.coords_val t 0 (by decide) rfl
    have e1 : (grid1.coords t 1).val = t.val / 4 % 2 := Pipeline.Grid.coords_val t 1 (by decide) rfl
    have e2 : (grid1.coords t 2).val = t.val / 1 % 4 := Pipeline.Grid.coords_val t 2 (by decide) rfl
    simp only [k1_cond2, e0, e1, e2]
    word_cmp
   : ∀ t : Fin grid1.N, k1_cond2 (grid1.coords t) = 1#1 ↔ 1 ≤ t.val % 4)

/-- The body stores into the output buffer at every point. -/
theorem out_live (t : Fin cfg1.N) : cfg1.idle 7 (grid1.coords t) = false := by
  have h : (!(k1_cond1 (grid1.coords t) == 1#1) && !(k1_cond2 (grid1.coords t) == 1#1)) = false := by
    by_cases h0 : t.val % 4 = 0
    · rw [(first_iff t).mpr h0]; rfl
    · rw [(next_iff t).mpr (by omega)]; simp
  exact h

/-! ## The rectangles the body loads and stores through -/

abbrev rLane : Rect S1x1x512 := Rect.unit (s := S1x1x512) ![0, 0, 0] S1x1x512.size inb_S1x1x512_S1x1x512_0_0_0
abbrev rPos : Rect S1x1024x1 := Rect.unit (s := S1x1024x1) ![0, 0, 0] S1x1024x1.size inb_S1x1024x1_S1x1024x1_0_0_0
abbrev rTok : Rect S1x512x2048 := Rect.unit (s := S1x512x2048) ![0, 0, 0] S1x512x2048.size inb_S1x512x2048_S1x512x2048_0_0_0
abbrev rEnc : Rect S1x1024x512 := Rect.unit (s := S1x1024x512) ![0, 0, 0] S1x1024x512.size inb_S1x1024x512_S1x1024x512_0_0_0
abbrev rW (i : grid1.Coords) : Rect S2048x2048 := Rect.unit (s := S2048x2048) (k1_off1 i) S2048x512.size (k1_off1_inb i)
abbrev rOut : Rect S1x1024x2048 := Rect.unit (s := S1x1024x2048) ![0, 0, 0] S1x1024x2048.size inb_S1x1024x2048_S1x1024x2048_0_0_0

/-! ## What the body leaves in the output buffer -/

/-- The weighted sum of the point's concept tokens. -/
def weighted (i : grid1.Coords) (x0 x1 : Vec F S1x1x512 .f32) (x2 x3 : Vec F S1x1024x1 .f32) (x4 : Vec F S1x512x2048 .f32) : FVec F S1024x2048 .f32 :=
  k1_pay4 i (View.ld x2 rPos) (View.ld x3 rPos) (View.ld x1 rLane) (View.ld x0 rLane) (View.ld x4 rTok)
/-- The zeros the projection starts from. -/
def zeros : FVec F S1024x2048 .f32 := constant S1024x2048 .f32 0x00000000#32
/-- At the first point of a run: the point's addend, stored. -/
def firstOut (i : grid1.Coords) (x0 x1 : Vec F S1x1x512 .f32) (x2 x3 : Vec F S1x1024x1 .f32) (x4 : Vec F S1x512x2048 .f32)
    (x5 : Vec F S1x1024x512 .f32) (x6 : Vec F S2048x2048 .bf16) : Vec F S1x1024x2048 .f32 :=
  View.canon [⟨rOut, k1_pay2 (weighted i x0 x1 x2 x3 x4) (k1_pay5 (View.ld x5 rEnc)) (k1_pay6 (View.ld x6 (rW i))) zeros⟩]
/-- At a later point: the addend added to what the buffer held (`y`). -/
def nextOut (i : grid1.Coords) (x0 x1 : Vec F S1x1x512 .f32) (x2 x3 : Vec F S1x1024x1 .f32) (x4 : Vec F S1x512x2048 .f32)
    (x5 : Vec F S1x1024x512 .f32) (x6 : Vec F S2048x2048 .bf16) (y : Vec F S1x1024x2048 .f32) : Vec F S1x1024x2048 .f32 :=
  View.canon [⟨rOut, k1_pay3 (weighted i x0 x1 x2 x3 x4) (k1_pay5 (View.ld x5 rEnc)) (k1_pay6 (View.ld x6 (rW i))) zeros (View.ld y rOut)⟩]

/-- One store through the whole output block covers it. -/
theorem cover_out (p0 : Vec F S1x1024x2048 .f32) (y : S1x1024x2048.Idx) :
    ∃ pc ∈ ([⟨rOut, p0⟩] : List (View.Piece (Elt F) S1x1024x2048 .f32)), y ∈ pc.1.set :=
  View.cover_of_tiled [⟨rOut, p0⟩] S1x1024x2048.size (by rfl) y

/-! ## The body's triples -/

section Triples

variable (c : Dev nD) (E : Set ℕ) (i : grid1.Coords)
  (arg3 : Memref sig .tc .vmem S1x1x512 .f32) (harg3 : arg3.IsWhole) (arg4 : Memref sig .tc .vmem S1x1x512 .f32) (harg4 : arg4.IsWhole)
  (arg5 : Memref sig .tc .vmem S1x1024x1 .f32) (harg5 : arg5.IsWhole) (arg6 : Memref sig .tc .vmem S1x1024x1 .f32) (harg6 : arg6.IsWhole)
  (arg7 : Memref sig .tc .vmem S1x512x2048 .f32) (harg7 : arg7.IsWhole) (arg8 : Memref sig .tc .vmem S1x1024x512 .f32) (harg8 : arg8.IsWhole)
  (arg9 : Memref sig .tc .vmem S2048x2048 .bf16) (harg9 : arg9.IsWhole) (arg10 : Memref sig .tc .vmem S1x1024x2048 .f32) (harg10 : arg10.IsWhole)
  (x0 x1 : Vec F S1x1x512 .f32) (x2 x3 : Vec F S1x1024x1 .f32) (x4 : Vec F S1x512x2048 .f32) (x5 : Vec F S1x1024x512 .f32)
  (x6 : Vec F S2048x2048 .bf16)

/-- The seven input buffers at their contents. -/
def ins : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4 ∗ owns (c : Thread nD τ) arg8 fullShare x5
    ∗ owns (c : Thread nD τ) arg9 fullShare x6)

set_option maxHeartbeats 1000000 in
/-- At the first point of a run the body leaves the output buffer, whatever it held, at `firstOut` of the inputs. -/
theorem stage2_first (hc0 : k1_cond1 i = 1#1) (hc1 : ¬k1_cond2 i = 1#1) (K : PUnit → sProp 𝕄) :
    iprop(ins c arg3 arg4 arg5 arg6 arg7 arg8 arg9 x0 x1 x2 x3 x4 x5 x6 ∗ (∃ d, owns (c : Thread nD τ) arg10 fullShare d)
        ∗ (iprop(ins c arg3 arg4 arg5 arg6 arg7 arg8 arg9 x0 x1 x2 x3 x4 x5 x6
            ∗ owns (c : Thread nD τ) arg10 fullShare (firstOut i x0 x1 x2 x3 x4 x5 x6)) -∗ K ⟨⟩))
      ⊢ wp frame (wpE (defs₀ (F := F)) Variants.none c none) E
          (cc1__stage2_kernel i arg3 harg3 arg4 harg4 arg5 harg5 arg6 harg6 arg7 harg7 arg8 harg8 arg9 harg9 arg10 harg10) K := by
  simp only [cc1__stage2_kernel_eq_skeleton]; unfold cc1__stage2_kernel_skel
  simp only [k1_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, Hk⟩
  subst hf0 hf1 hf2 hf3 hf4 hf5 hf6
  sl_exec (disch := first | sl_exact hc0 | sl_exact hc1)
  sl_step
  iapply Hk
  isplitl [H0 H1 H2 H3 H4 H5 H6]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  iexists _; isplitr
  swap; · iexact H7
  ipureintro
  refine (View.read_writes_eq_canon _ _ _ (cover_out _)).trans ?_
  rfl

set_option maxHeartbeats 1000000 in
/-- At a later point the body leaves the output buffer, which held `y`, at `nextOut` of the inputs and `y`. -/
theorem stage2_next (y : Vec F S1x1024x2048 .f32) (hc0 : ¬k1_cond1 i = 1#1) (hc1 : k1_cond2 i = 1#1) (K : PUnit → sProp 𝕄) :
    iprop(ins c arg3 arg4 arg5 arg6 arg7 arg8 arg9 x0 x1 x2 x3 x4 x5 x6 ∗ owns (c : Thread nD τ) arg10 fullShare y
        ∗ (iprop(ins c arg3 arg4 arg5 arg6 arg7 arg8 arg9 x0 x1 x2 x3 x4 x5 x6
            ∗ owns (c : Thread nD τ) arg10 fullShare (nextOut i x0 x1 x2 x3 x4 x5 x6 y)) -∗ K ⟨⟩))
      ⊢ wp frame (wpE (defs₀ (F := F)) Variants.none c none) E
          (cc1__stage2_kernel i arg3 harg3 arg4 harg4 arg5 harg5 arg6 harg6 arg7 harg7 arg8 harg8 arg9 harg9 arg10 harg10) K := by
  simp only [cc1__stage2_kernel_eq_skeleton]; unfold cc1__stage2_kernel_skel
  simp only [k1_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, %hf7, H7⟩, Hk⟩
  subst hf0 hf1 hf2 hf3 hf4 hf5 hf6 hf7
  sl_exec (disch := first | sl_exact hc0 | sl_exact hc1)
  sl_step
  iapply Hk
  isplitl [H0 H1 H2 H3 H4 H5 H6]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  iexists _; isplitr
  swap; · iexact H7
  ipureintro
  refine (View.read_writes_eq_canon _ _ _ (cover_out _)).trans ?_
  rfl

end Triples

end Cert.KernelIdeal.Hand

end
-- ==== Proof.IdealRun.lean ====
/-
  The run of the idealized program's @main, for any float values.

  @main is three layout changes of its arguments, the first kernel's region, one cast of the weight matrix, and the second
  kernel's region. Between these items every buffer is known: `W0` at launch, `W1` after the layout changes, `W2` after the
  first region, `W3` after the cast, `W4` at the end, each a function of the launch memory.
  `run_main` says every execution terminates with every argument as launched, the result at `W4` and every semaphore counter
  at zero.
-/
module

public import proofs.«01_k».proof.Proof.IdealStage1
public import proofs.«01_k».proof.Proof.IdealStage2
public import proofs.«01_k».proof.Proof.Gen.KernelIdeal.Regions
public import Idealize.ShloMosaic.Lib.Pipeline.RegionArraysS
public import Idealize.ShloMosaic.Lib.Pipeline.TableIdle
public import Idealize.ShloMosaic.Lib.Pipeline.FrameTail

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The first region -/

/-- Core `c`'s buffers at launch, -/
abbrev W0 (c : Dev nD) : Valuation τ sig (Elt F) := fun b => m (c, b)
/-- and when the first region is entered. -/
abbrev W1 (c : Dev nD) : Valuation τ sig (Elt F) := StableHlo.after hostOps0 (W0 m c)

/-- Window `w`'s block at point `t` of the first region, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (W1 m c (Proc.devRef .tc (Pipeline.arrRef spec0 w)))

/-- The first region's proof data: the arrays as found; after the body at point `t` the inputs' buffers at their blocks and
    the outputs' at the body's results on them. -/
def dat0 (c : Dev nD) : Dat τ (Elt F) Unit ℕ (UR sig nD τ) ℕ cfg0 c where
  A w := W1 m c (Proc.devRef .tc (Pipeline.arrRef spec0 w))
  after w t := match w with
    | ⟨0, _⟩ => blk0 m c 0 t
    | ⟨1, _⟩ => blk0 m c 1 t
    | ⟨2, _⟩ => blk0 m c 2 t
    | ⟨3, _⟩ => outP (blk0 m c 1 t) (blk0 m c 2 t)
    | ⟨4, _⟩ => outS (blk0 m c 1 t) (blk0 m c 2 t)
    | ⟨5, _⟩ => outU (blk0 m c 0 t) (blk0 m c 1 t) (blk0 m c 2 t)
    | ⟨6, _⟩ => outPb (blk0 m c 0 t)
  Φ _ := Pipeline.ΦA spec0 c
  q _ := fullShare
  owed _ := 0

/-- The arrays of the first region enter at `W1`. -/
theorem dat0_A (c : Dev nD) (w : Fin cfg0.W) : (dat0 m c).A w = W1 m c (Proc.devRef .tc (Pipeline.arrRef spec0 w)) := by
  dsimp only [dat0]

/-- What the body leaves in each window's buffer. -/
theorem after0_0 (c : Dev nD) (t : Fin cfg0.N) : (dat0 m c).after 0 t = blk0 m c 0 t := by dsimp only [dat0]
theorem after0_1 (c : Dev nD) (t : Fin cfg0.N) : (dat0 m c).after 1 t = blk0 m c 1 t := by dsimp only [dat0]
theorem after0_2 (c : Dev nD) (t : Fin cfg0.N) : (dat0 m c).after 2 t = blk0 m c 2 t := by dsimp only [dat0]
theorem after0_3 (c : Dev nD) (t : Fin cfg0.N) : (dat0 m c).after 3 t = outP (blk0 m c 1 t) (blk0 m c 2 t) := by dsimp only [dat0]
theorem after0_4 (c : Dev nD) (t : Fin cfg0.N) : (dat0 m c).after 4 t = outS (blk0 m c 1 t) (blk0 m c 2 t) := by dsimp only [dat0]
theorem after0_5 (c : Dev nD) (t : Fin cfg0.N) : (dat0 m c).after 5 t = outU (blk0 m c 0 t) (blk0 m c 1 t) (blk0 m c 2 t) := by dsimp only [dat0]
theorem after0_6 (c : Dev nD) (t : Fin cfg0.N) : (dat0 m c).after 6 t = outPb (blk0 m c 0 t) := by dsimp only [dat0]

/-- An input's buffer holds its block when the body runs. -/
theorem before0_0 (c : Dev nD) (t : Fin cfg0.N) (d) : (dat0 m c).before 0 t d = blk0 m c 0 t :=
  ((dat0 m c).before_in_eq_fetched 0 rfl (fun _ => rfl) (fun _ _ _ => rfl)
      (fun t => by rw [after0_0]; unfold Dat.blockOf blk0; rw [dat0_A]; try rfl) t d).trans
    (by unfold Dat.fetched Dat.blockOf blk0; rw [dat0_A]; try rfl)
theorem before0_1 (c : Dev nD) (t : Fin cfg0.N) (d) : (dat0 m c).before 1 t d = blk0 m c 1 t :=
  ((dat0 m c).before_in_eq_fetched 1 rfl (fun _ => rfl) (fun _ _ _ => rfl)
      (fun t => by rw [after0_1]; unfold Dat.blockOf blk0; rw [dat0_A]; try rfl) t d).trans
    (by unfold Dat.fetched Dat.blockOf blk0; rw [dat0_A]; try rfl)
theorem before0_2 (c : Dev nD) (t : Fin cfg0.N) (d) : (dat0 m c).before 2 t d = blk0 m c 2 t :=
  ((dat0 m c).before_in_eq_fetched 2 rfl (fun _ => rfl) (fun _ _ _ => rfl)
      (fun t => by rw [after0_2]; unfold Dat.blockOf blk0; rw [dat0_A]; try rfl) t d).trans
    (by unfold Dat.fetched Dat.blockOf blk0; rw [dat0_A]; try rfl)

/-- What the body is called with at point `t`, the windows one by one, -/
def pre0 (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d))
    ∗ (∃ d, owns (c : Thread nD τ) (st0_4 t) fullShare ((dat0 m c).before 4 t d))
    ∗ (∃ d, owns (c : Thread nD τ) (st0_5 t) fullShare ((dat0 m c).before 5 t d))
    ∗ (∃ d, owns (c : Thread nD τ) (st0_6 t) fullShare ((dat0 m c).before 6 t d)))
/-- and what it returns. -/
def post0 (c : Dev nD) (t : Fin cfg0.N) : sProp 𝕄 :=
  iprop((dat0 m c).Φ t.succ ∗ (dat0 m c).owesAt () t.succ
    ∗ (dat0 m c).leavesExact 0 t
    ∗ (dat0 m c).leavesExact 1 t
    ∗ (dat0 m c).leavesExact 2 t
    ∗ (dat0 m c).leavesExact 3 t
    ∗ (dat0 m c).leavesExact 4 t
    ∗ (dat0 m c).leavesExact 5 t
    ∗ (dat0 m c).leavesExact 6 t)

set_option maxHeartbeats 1600000 in
/-- The body at any point of the first region. -/
theorem sound0 (c : Dev nD) (t : Fin cfg0.N) :
    pre0 m c t ⊢ wp frame (wpE (defs₀ (F := F)) Variants.none c none) Set.univ (bodyAt0 t) (fun _ => post0 m c t) := by
  unfold pre0 post0 bodyAt0
  simp only [before0_0, before0_1, before0_2]
  rw [show (dat0 m c).Φ t.succ = (dat0 m c).Φ t.castSucc from rfl,
    show (dat0 m c).owesAt () t.succ = (dat0 m c).owesAt () t.castSucc from rfl]
  rw [show (dat0 m c).leavesExact 0 t = owns (c : Thread nD τ) (st0_0 t) fullShare ((dat0 m c).after 0 t) from by
    unfold Dat.leavesExact; rw [show cfg0.idle 0 (grid0.coords t) = false from rfl], after0_0]
  rw [show (dat0 m c).leavesExact 1 t = owns (c : Thread nD τ) (st0_1 t) fullShare ((dat0 m c).after 1 t) from by
    unfold Dat.leavesExact; rw [show cfg0.idle 1 (grid0.coords t) = false from rfl], after0_1]
  rw [show (dat0 m c).leavesExact 2 t = owns (c : Thread nD τ) (st0_2 t) fullShare ((dat0 m c).after 2 t) from by
    unfold Dat.leavesExact; rw [show cfg0.idle 2 (grid0.coords t) = false from rfl], after0_2]
  rw [show (dat0 m c).leavesExact 3 t = owns (c : Thread nD τ) (st0_3 t) fullShare ((dat0 m c).after 3 t) from by
    unfold Dat.leavesExact; rw [show cfg0.idle 3 (grid0.coords t) = false from rfl], after0_3]
  rw [show (dat0 m c).leavesExact 4 t = owns (c : Thread nD τ) (st0_4 t) fullShare ((dat0 m c).after 4 t) from by
    unfold Dat.leavesExact; rw [show cfg0.idle 4 (grid0.coords t) = false from rfl], after0_4]
  rw [show (dat0 m c).leavesExact 5 t = owns (c : Thread nD τ) (st0_5 t) fullShare ((dat0 m c).after 5 t) from by
    unfold Dat.leavesExact; rw [show cfg0.idle 5 (grid0.coords t) = false from rfl], after0_5]
  rw [show (dat0 m c).leavesExact 6 t = owns (c : Thread nD τ) (st0_6 t) fullShare ((dat0 m c).after 6 t) from by
    unfold Dat.leavesExact; rw [show cfg0.idle 6 (grid0.coords t) = false from rfl], after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (stage1_triple c Set.univ (grid0.coords t) _ _ _ _ _ _ _ _ _ _ _ _ _ _ (blk0 m c 0 t) (blk0 m c 1 t) (blk0 m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row of the first region. -/
theorem row0 (t : Fin cfg0.N) : defs₀ (F := F) .tc cfg0.body (cfg0.bodyArgs t (cfg0.slots t)) = bodyAt0 t := by
  unfold defs₀; rw [Defs.onTc_tc]

/-- The library's body obligation of the first region. -/
theorem obligation0 (c : Dev nD) : BodyObligation (dat0 (F := F) m c) (defs₀ (F := F)) Variants.none () Set.univ := fun t => by
  rw [bigSep_W0, bigSep_W0, row0]
  exact triple_restated (sound0 m c t) rfl .rfl fun _ => .rfl

/-! ## The second region -/

/-- Core `c`'s buffers after the first region, -/
abbrev W2 (c : Dev nD) : Valuation τ sig (Elt F) := Pipeline.afterRegion (dat0 m c) (W1 m c)
/-- and when the second region is entered. -/
abbrev W3 (c : Dev nD) : Valuation τ sig (Elt F) := StableHlo.after hostOps1 (W2 m c)

/-- Window `w`'s block at point `t` of the second region, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (W3 m c (Proc.devRef .tc (Pipeline.arrRef spec1 w)))

/-- What the body leaves in the output buffer at the first point of a run, -/
def first1 (c : Dev nD) (t : Fin cfg1.N) : Vec F S1x1024x2048 .f32 :=
  firstOut (grid1.coords t) (blk1 m c 0 t) (blk1 m c 1 t) (blk1 m c 2 t) (blk1 m c 3 t) (blk1 m c 4 t) (blk1 m c 5 t) (blk1 m c 6 t)
/-- and at a later point, over what the point before left. -/
def next1 (c : Dev nD) (t : Fin cfg1.N) (y : Vec F S1x1024x2048 .f32) : Vec F S1x1024x2048 .f32 :=
  nextOut (grid1.coords t) (blk1 m c 0 t) (blk1 m c 1 t) (blk1 m c 2 t) (blk1 m c 3 t) (blk1 m c 4 t) (blk1 m c 5 t) (blk1 m c 6 t) y
/-- What the output buffer holds after the body at position `n`. -/
def acc1 (c : Dev nD) : (n : ℕ) → n < cfg1.N → Vec F S1x1024x2048 .f32
  | 0, hn => first1 m c ⟨0, hn⟩
  | n + 1, hn => if (n + 1) % 4 = 0 then first1 m c ⟨n + 1, hn⟩ else next1 m c ⟨n + 1, hn⟩ (acc1 c n (Nat.lt_of_succ_lt hn))

theorem acc1_first (c : Dev nD) (t : Fin cfg1.N) (h : t.val % 4 = 0) : acc1 m c t.val t.isLt = first1 m c t := by
  obtain ⟨n, hn⟩ := t
  cases n with
  | zero => rfl
  | succ n => exact if_pos h
theorem acc1_next (c : Dev nD) (t : Fin cfg1.N) (h : 1 ≤ t.val % 4) :
    acc1 m c t.val t.isLt = next1 m c t (acc1 m c (t.val - 1) (Nat.lt_of_le_of_lt (Nat.sub_le _ _) t.isLt)) := by
  obtain ⟨n, hn⟩ := t
  cases n with
  | zero => exact absurd h (by simp)
  | succ n => exact if_neg (by dsimp only at h; omega)

/-- The second region's proof data. -/
def dat1 (c : Dev nD) : Dat τ (Elt F) Unit ℕ (UR sig nD τ) ℕ cfg1 c where
  A w := W3 m c (Proc.devRef .tc (Pipeline.arrRef spec1 w))
  after w t := match w with
    | ⟨0, _⟩ => blk1 m c 0 t
    | ⟨1, _⟩ => blk1 m c 1 t
    | ⟨2, _⟩ => blk1 m c 2 t
    | ⟨3, _⟩ => blk1 m c 3 t
    | ⟨4, _⟩ => blk1 m c 4 t
    | ⟨5, _⟩ => blk1 m c 5 t
    | ⟨6, _⟩ => blk1 m c 6 t
    | ⟨7, _⟩ => acc1 m c t.val t.isLt
  Φ _ := Pipeline.ΦA spec1 c
  q _ := fullShare
  owed _ := 0

/-- The arrays of the second region enter at `W3`. -/
theorem dat1_A (c : Dev nD) (w : Fin cfg1.W) : (dat1 m c).A w = W3 m c (Proc.devRef .tc (Pipeline.arrRef spec1 w)) := by
  dsimp only [dat1]

/-- What the body leaves in each window's buffer. -/
theorem after1_0 (c : Dev nD) (t : Fin cfg1.N) : (dat1 m c).after 0 t = blk1 m c 0 t := by dsimp only [dat1]
theorem after1_1 (c : Dev nD) (t : Fin cfg1.N) : (dat1 m c).after 1 t = blk1 m c 1 t := by dsimp only [dat1]
theorem after1_2 (c : Dev nD) (t : Fin cfg1.N) : (dat1 m c).after 2 t = blk1 m c 2 t := by dsimp only [dat1]
theorem after1_3 (c : Dev nD) (t : Fin cfg1.N) : (dat1 m c).after 3 t = blk1 m c 3 t := by dsimp only [dat1]
theorem after1_4 (c : Dev nD) (t : Fin cfg1.N) : (dat1 m c).after 4 t = blk1 m c 4 t := by dsimp only [dat1]
theorem after1_5 (c : Dev nD) (t : Fin cfg1.N) : (dat1 m c).after 5 t = blk1 m c 5 t := by dsimp only [dat1]
theorem after1_6 (c : Dev nD) (t : Fin cfg1.N) : (dat1 m c).after 6 t = blk1 m c 6 t := by dsimp only [dat1]
theorem after1_7 (c : Dev nD) (t : Fin cfg1.N) : (dat1 m c).after 7 t = acc1 m c t.val t.isLt := by dsimp only [dat1]

/-- An input's buffer holds its block when the body runs. -/
theorem before1_0 (c : Dev nD) (t : Fin cfg1.N) (d) : (dat1 m c).before 0 t d = blk1 m c 0 t :=
  ((dat1 m c).before_in_eq_fetched 0 rfl (fun _ => rfl) (fun _ _ _ => rfl)
      (fun t => by rw [after1_0]; unfold Dat.blockOf blk1; rw [dat1_A]; try rfl) t d).trans
    (by unfold Dat.fetched Dat.blockOf blk1; rw [dat1_A]; try rfl)
theorem before1_1 (c : Dev nD) (t : Fin cfg1.N) (d) : (dat1 m c).before 1 t d = blk1 m c 1 t :=
  ((dat1 m c).before_in_eq_fetched 1 rfl (fun _ => rfl) (fun _ _ _ => rfl)
      (fun t => by rw [after1_1]; unfold Dat.blockOf blk1; rw [dat1_A]; try rfl) t d).trans
    (by unfold Dat.fetched Dat.blockOf blk1; rw [dat1_A]; try rfl)
theorem before1_2 (c : Dev nD) (t : Fin cfg1.N) (d) : (dat1 m c).before 2 t d = blk1 m c 2 t :=
  ((dat1 m c).before_in_eq_fetched 2 rfl (fun _ => rfl) (fun _ _ _ => rfl)
      (fun t => by rw [after1_2]; unfold Dat.blockOf blk1; rw [dat1_A]; try rfl) t d).trans
    (by unfold Dat.fetched Dat.blockOf blk1; rw [dat1_A]; try rfl)
theorem before1_3 (c : Dev nD) (t : Fin cfg1.N) (d) : (dat1 m c).before 3 t d = blk1 m c 3 t :=
  ((dat1 m c).before_in_eq_fetched 3 rfl (fun _ => rfl) (fun _ _ _ => rfl)
      (fun t => by rw [after1_3]; unfold Dat.blockOf blk1; rw [dat1_A]; try rfl) t d).trans
    (by unfold Dat.fetched Dat.blockOf blk1; rw [dat1_A]; try rfl)
theorem before1_4 (c : Dev nD) (t : Fin cfg1.N) (d) : (dat1 m c).before 4 t d = blk1 m c 4 t :=
  ((dat1 m c).before_in_eq_fetched 4 rfl (fun _ => rfl) (fun _ _ _ => rfl)
      (fun t => by rw [after1_4]; unfold Dat.blockOf blk1; rw [dat1_A]; try rfl) t d).trans
    (by unfold Dat.fetched Dat.blockOf blk1; rw [dat1_A]; try rfl)
theorem before1_5 (c : Dev nD) (t : Fin cfg1.N) (d) : (dat1 m c).before 5 t d = blk1 m c 5 t :=
  ((dat1 m c).before_in_eq_fetched 5 rfl (fun _ => rfl) (fun _ _ _ => rfl)
      (fun t => by rw [after1_5]; unfold Dat.blockOf blk1; rw [dat1_A]; try rfl) t d).trans
    (by unfold Dat.fetched Dat.blockOf blk1; rw [dat1_A]; try rfl)
theorem before1_6 (c : Dev nD) (t : Fin cfg1.N) (d) : (dat1 m c).before 6 t d = blk1 m c 6 t :=
  ((dat1 m c).before_in_eq_fetched 6 rfl (fun _ => rfl) (fun _ _ _ => rfl)
      (fun t => by rw [after1_6]; unfold Dat.blockOf blk1; rw [dat1_A]; try rfl) t d).trans
    (by unfold Dat.fetched Dat.blockOf blk1; rw [dat1_A]; try rfl)

/-- At a later point of a run the output buffer was stored into since the last write-back, -/
theorem not_fresh (t : Fin cfg1.N) (h : 1 ≤ t.val % 4) : cfg1.fresh 7 t.val = false := by
  obtain ⟨n, hn⟩ := t
  cases n with
  | zero => exact absurd h (by simp)
  | succ n =>
    have h3 : ¬ n % 4 = 3 := by dsimp only at h; omega
    have hfl : (cfg1.win 7).flush ⟨n, Nat.lt_of_succ_lt hn⟩ = false :=
      Bool.eq_false_iff.mpr fun e => h3 ((flush1_7 ⟨n, Nat.lt_of_succ_lt hn⟩).mp e)
    have hl : cfg1.idle 7 (cfg1.grid.coords ⟨n, Nat.lt_of_succ_lt hn⟩) = false := out_live ⟨n, Nat.lt_of_succ_lt hn⟩
    show cfg1.fresh 7 (n + 1) = false
    unfold Pipeline.Cfg.fresh
    rw [dif_pos (Nat.lt_of_succ_lt hn), hfl, hl]; rfl
/-- so it holds what the point before left. -/
theorem before1_7 (c : Dev nD) (t : Fin cfg1.N) (h : 1 ≤ t.val % 4) (d) :
    (dat1 m c).before 7 t d = acc1 m c (t.val - 1) (Nat.lt_of_le_of_lt (Nat.sub_le _ _) t.isLt) := by
  rw [Dat.before_out_traj _ 7 rfl (fun _ _ => rfl) (fun t _ hi _ => absurd ((out_live t).symm.trans hi) Bool.false_ne_true) t.val t rfl d,
    if_neg (by rw [not_fresh t h]; exact Bool.false_ne_true)]
  dsimp only [dat1]

/-- What the body is called with at point `t`, the windows one by one, -/
def pre1 (c : Dev nD) (t : Fin cfg1.N) : sProp 𝕄 :=
  iprop((dat1 m c).Φ t.castSucc ∗ (dat1 m c).owesAt () t.castSucc
    ∗ (∃ d, owns (c : Thread nD τ) (st1_0 t) fullShare ((dat1 m c).before 0 t d))
    ∗ (∃ d, owns (c : Thread nD τ) (st1_1 t) fullShare ((dat1 m c).before 1 t d))
    ∗ (∃ d, owns (c : Thread nD τ) (st1_2 t) fullShare ((dat1 m c).before 2 t d))
    ∗ (∃ d, owns (c : Thread nD τ) (st1_3 t) fullShare ((dat1 m c).before 3 t d))
    ∗ (∃ d, owns (c : Thread nD τ) (st1_4 t) fullShare ((dat1 m c).before 4 t d))
    ∗ (∃ d, owns (c : Thread nD τ) (st1_5 t) fullShare ((dat1 m c).before 5 t d))
    ∗ (∃ d, owns (c : Thread nD τ) (st1_6 t) fullShare ((dat1 m c).before 6 t d))
    ∗ (∃ d, owns (c : Thread nD τ) (st1_7 t) fullShare ((dat1 m c).before 7 t d)))
/-- and what it returns. -/
def post1 (c : Dev nD) (t : Fin cfg1.N) : sProp 𝕄 :=
  iprop((dat1 m c).Φ t.succ ∗ (dat1 m c).owesAt () t.succ
    ∗ (dat1 m c).leavesExact 0 t
    ∗ (dat1 m c).leavesExact 1 t
    ∗ (dat1 m c).leavesExact 2 t
    ∗ (dat1 m c).leavesExact 3 t
    ∗ (dat1 m c).leavesExact 4 t
    ∗ (dat1 m c).leavesExact 5 t
    ∗ (dat1 m c).leavesExact 6 t
    ∗ (dat1 m c).leavesExact 7 t)

set_option maxHeartbeats 1600000 in
/-- The body at any point of the second region: the first point of a run, or a later one. -/
theorem sound1 (c : Dev nD) (t : Fin cfg1.N) :
    pre1 m c t ⊢ wp frame (wpE (defs₀ (F := F)) Variants.none c none) Set.univ (bodyAt1 t) (fun _ => post1 m c t) := by
  unfold pre1 post1 bodyAt1
  simp only [before1_0, before1_1, before1_2, before1_3, before1_4, before1_5, before1_6]
  rw [show (dat1 m c).Φ t.succ = (dat1 m c).Φ t.castSucc from rfl,
    show (dat1 m c).owesAt () t.succ = (dat1 m c).owesAt () t.castSucc from rfl]
  rw [show (dat1 m c).leavesExact 0 t = owns (c : Thread nD τ) (st1_0 t) fullShare ((dat1 m c).after 0 t) from by
    unfold Dat.leavesExact; rw [show cfg1.idle 0 (grid1.coords t) = false from rfl], after1_0]
  rw [show (dat1 m c).leavesExact 1 t = owns (c : Thread nD τ) (st1_1 t) fullShare ((dat1 m c).after 1 t) from by
    unfold Dat.leavesExact; rw [show cfg1.idle 1 (grid1.coords t) = false from rfl], after1_1]
  rw [show (dat1 m c).leavesExact 2 t = owns (c : Thread nD τ) (st1_2 t) fullShare ((dat1 m c).after 2 t) from by
    unfold Dat.leavesExact; rw [show cfg1.idle 2 (grid1.coords t) = false from rfl], after1_2]
  rw [show (dat1 m c).leavesExact 3 t = owns (c : Thread nD τ) (st1_3 t) fullShare ((dat1 m c).after 3 t) from by
    unfold Dat.leavesExact; rw [show cfg1.idle 3 (grid1.coords t) = false from rfl], after1_3]
  rw [show (dat1 m c).leavesExact 4 t = owns (c : Thread nD τ) (st1_4 t) fullShare ((dat1 m c).after 4 t) from by
    unfold Dat.leavesExact; rw [show cfg1.idle 4 (grid1.coords t) = false from rfl], after1_4]
  rw [show (dat1 m c).leavesExact 5 t = owns (c : Thread nD τ) (st1_5 t) fullShare ((dat1 m c).after 5 t) from by
    unfold Dat.leavesExact; rw [show cfg1.idle 5 (grid1.coords t) = false from rfl], after1_5]
  rw [show (dat1 m c).leavesExact 6 t = owns (c : Thread nD τ) (st1_6 t) fullShare ((dat1 m c).after 6 t) from by
    unfold Dat.leavesExact; rw [show cfg1.idle 6 (grid1.coords t) = false from rfl], after1_6]
  rw [show (dat1 m c).leavesExact 7 t = owns (c : Thread nD τ) (st1_7 t) fullShare ((dat1 m c).after 7 t) from by
    unfold Dat.leavesExact; rw [out_live t], after1_7]
  by_cases h : t.val % 4 = 0
  · rw [acc1_first m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (stage2_first c Set.univ (grid1.coords t) _ _ _ _ _ _ _ _ _ _ _ _ _ _ _ _
      (blk1 m c 0 t) (blk1 m c 1 t) (blk1 m c 2 t) (blk1 m c 3 t) (blk1 m c 4 t) (blk1 m c 5 t) (blk1 m c 6 t) ((first_iff t).mpr h) (fun e => absurd ((next_iff t).mp e) (by omega)) _)
    unfold ins
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    iintro ⟨⟨H0, H1, H2, H3, H4, H5, H6⟩, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h1 : 1 ≤ t.val % 4 := by omega
    rw [acc1_next m c t h1]
    simp only [before1_7 m c t h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (stage2_next c Set.univ (grid1.coords t) _ _ _ _ _ _ _ _ _ _ _ _ _ _ _ _
      (blk1 m c 0 t) (blk1 m c 1 t) (blk1 m c 2 t) (blk1 m c 3 t) (blk1 m c 4 t) (blk1 m c 5 t) (blk1 m c 6 t) (acc1 m c (t.val - 1) (Nat.lt_of_le_of_lt (Nat.sub_le _ _) t.isLt)) (fun e => h ((first_iff t).mp e)) ((next_iff t).mpr h1) _)
    unfold ins
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    iintro ⟨⟨H0, H1, H2, H3, H4, H5, H6⟩, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row of the second region. -/
theorem row1 (t : Fin cfg1.N) : defs₀ (F := F) .tc cfg1.body (cfg1.bodyArgs t (cfg1.slots t)) = bodyAt1 t := by
  unfold defs₀; rw [Defs.onTc_tc]

/-- The library's body obligation of the second region. -/
theorem obligation1 (c : Dev nD) : BodyObligation (dat1 (F := F) m c) (defs₀ (F := F)) Variants.none () Set.univ := fun t => by
  rw [bigSep_W1, bigSep_W1, row1]
  exact triple_restated (sound1 m c t) rfl .rfl fun _ => .rfl

/-! ## The launch -/

/-- Core `c`'s buffers at the end. -/
abbrev W4 (c : Dev nD) : Valuation τ sig (Elt F) := Pipeline.afterRegion (dat1 m c) (W3 m c)

/-- The proof data of the two regions. -/
def pdats : (p : Fin 2) → (c : Dev nD) → Dat τ (Elt F) Unit ℕ (UR sig nD τ) ℕ (cfgs p) c
  | ⟨0, _⟩, c => dat0 m c
  | ⟨1, _⟩, c => dat1 m c

/-- No core owes another anything: no level is assigned. -/
abbrev noL : GSem nD τ sig → Finset Unit := fun _ => ∅
abbrev noLv : GSem nD τ sig → Unit → ℕ := fun _ _ => 0

/-- What rides beside the buffers between the items: the generator register, and the core owing nothing. -/
abbrev side (c : Dev nD) : sProp 𝕄 :=
  iprop((∃ r, prngReg c r) ∗ ∃ W, owes (c.tc : Thread nD τ) (0 : CellTallies nD τ sig Unit) W)

/-- The layout changes before the first region, as a segment, -/
def segA : Pipeline.HostSeg (Name := ℕ) (U := UR sig nD τ) (Lvl := ℕ) (pcfgs (F := F)) defs₀ Variants.none noL noLv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) side
/-- and the cast between the two regions. -/
def segB : Pipeline.HostSeg (Name := ℕ) (U := UR sig nD τ) (Lvl := ℕ) (pcfgs (F := F)) defs₀ Variants.none noL noLv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) side

section Region

variable (p : Fin 2) (V : Dev nD → Valuation τ sig (Elt F))

-- `iapply` of a launch lemma stated over `cfgs p` at the pinned configuration unifies only when unification may unfold
-- plain definitions in a metavariable's type
set_option backward.isDefEq.respectTransparency.types false in
/-- A region of this program as a segment: entered with every buffer at `V`, left with every buffer at
    `Pipeline.afterRegion` of the proof data. -/
def region (kit : Pipeline.LaunchFacts (nD := nD) (τ := τ) cfgs p)
    (hbody : ∀ c, Pipeline.BodyObligationLoose (pdats m p c) (defs₀ (F := F)) Variants.none () Set.univ)
    (hshare : ∀ c w, (pdats m p c).share w = fullShare) (howed : ∀ c t, (pdats m p c).owed t = 0)
    (hrec : ∀ c, (pdats m p c).recorded 0 = Set.univ)
    (hΦ : ∀ c t, (pdats m p c).Φ t = Pipeline.ΦA (cfgs p).spec c)
    (hA : ∀ c w, (pdats m p c).A w = V c (Proc.devRef .tc (Pipeline.arrRef (cfgs p).spec w))) :
    Pipeline.RegionSeg (pcfgs (F := F)) adm (pdats m) () defs₀ Variants.none noL noLv p where
  win := kit.win.to₀
  block_pos := kit.block_pos
  stage_whole := kit.stage_whole
  K := PEmpty
  osem := fun k => k.elim
  ho := Pipeline.OwnSemFacts.none _
  hbody := hbody
  hwaits := Pipeline.hwaits_of_owed_zero _ _ _ _ noL noLv p howed
  pre := fun c => iprop(StableHlo.held (c.tc : Thread nD τ) (Pipeline.ucRefs τ sig) (V c) ∗ side c)
  post := fun c => iprop(StableHlo.held (c.tc : Thread nD τ) (Pipeline.ucRefs τ sig) (Pipeline.afterRegion (pdats m p c) (V c)) ∗ side c)
  X := fun c => iprop(∃ r, prngReg c r)
  Y := fun c => iprop(∃ r, prngReg c r)
  Z := fun c => Pipeline.unscopedRest (Ix := Unit) (Name := ℕ) (U := UR sig nD τ) (Lvl := ℕ) (cfgs p).spec c (fun b => V c (Proc.devRef .tc b))
  hentry := fun c => by
    rw [Pipeline.ownSems0_none,
      show StableHlo.held (c.tc : Thread nD τ) (Pipeline.ucRefs τ sig) (V c) = unscopedBufs c (fun b => V c (Proc.devRef .tc b))
        from (Pipeline.unscopedBufs_held (Ix := Unit) (Name := ℕ) (U := UR sig nD τ) (Lvl := ℕ) c (V c)).symm]
    have hsplit := Pipeline.arrays_of_unscopedBufs (p := p) (pcfgs (F := F)) adm (pdats m) kit.win kit.arr_whole c (hshare c)
      (fun b => V c (Proc.devRef .tc b)) (fun w => hA c w)
    iintro ⟨⟨Hub, Hp, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      rw [howed c 0]
      icases HO with ⟨%W, HO⟩
      iexists W; isplitr; · ipureintro; exact fun _ _ => Or.inl (by rw [hrec c]; trivial)
      iexact HO
    isplitl [Hp]; · iexact Hp
    iexact Hrest
  hin := fun c => (show _ ⊢ Pipeline.ΦA (cfgs p).spec c from by
    unfold Pipeline.ΦA; iintro ⟨Hp, -, Hr⟩
    isplitl [Hr] <;> iassumption).trans (Entails.of_eq (hΦ c 0).symm)
  hout := fun c => (Entails.of_eq (hΦ c (Fin.last (cfgs p).N))).trans (by
    rw [Pipeline.ownSems0_none]; unfold Pipeline.ΦA
    iintro ⟨Hr, Hp⟩
    isplitl [Hp]; · iexact Hp
    isplitr; · iempintro
    iexact Hr)
  hexit := fun c => by
    have hjoin := Pipeline.unscopedBufs_of_arrays (p := p) (pcfgs (F := F)) adm (Ix := Unit) (Name := ℕ) (U := UR sig nD τ) (Lvl := ℕ)
      kit.win kit.arr_whole c (pdats m) (hshare c)
      (fun b => V c (Proc.devRef .tc b)) (fun b => Pipeline.afterRegion (pdats m p c) (V c) (Proc.devRef .tc b)) ((pdats m p c).arrAt · (cfgs p).N)
      (fun w => (Pipeline.afterRegion_arr (pdats m p c) (V c) kit.win.arr_inj w).symm)
      (fun b hb => Pipeline.afterRegion_of_not_arr (pdats m p c) (V c)
        fun w h => hb (h ▸ Finset.mem_image.mpr ⟨w, Finset.mem_univ _, rfl⟩))
    rw [show StableHlo.held (c.tc : Thread nD τ) (Pipeline.ucRefs τ sig) (Pipeline.afterRegion (pdats m p c) (V c))
        = unscopedBufs c (fun b => Pipeline.afterRegion (pdats m p c) (V c) (Proc.devRef .tc b))
        from (Pipeline.unscopedBufs_held (Ix := Unit) (Name := ℕ) (U := UR sig nD τ) (Lvl := ℕ) c _).symm]
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    rw [howed c (Fin.last _)]
    icases HO with ⟨%W, -, HO⟩; iexists W; iexact HO

end Region

/-- The first region, entered at `W1`, -/
def reg0 : Pipeline.RegionSeg (pcfgs (F := F)) adm (pdats m) () defs₀ Variants.none noL noLv 0 :=
  region m 0 (W1 m) launch0 (fun c => (obligation0 m c).loose) (fun c => (dat0 m c).share_full fun _ => rfl) (fun _ _ => rfl)
    (fun _ => rfl) (fun _ _ => rfl) (fun c w => dat0_A m c w)
/-- and the second, entered at `W3`. -/
def reg1 : Pipeline.RegionSeg (pcfgs (F := F)) adm (pdats m) () defs₀ Variants.none noL noLv 1 :=
  region m 1 (W3 m) launch1 (fun c => (obligation1 m c).loose) (fun c => (dat1 m c).share_full fun _ => rfl) (fun _ _ => rfl)
    (fun _ => rfl) (fun _ _ => rfl) (fun c w => dat1_A m c w)

/-- @main as the list of the four. -/
abbrev mainSegs (_ : Dev nD) : List (Pipeline.Seg (pcfgs (F := F)) adm (pdats m) () defs₀ Variants.none noL noLv) :=
  [.host (segA m), .region (reg0 m), .host (segB m), .region (reg1 m)]

/-- No item writes a reference that is neither a result of a host operation nor an output array of a region. -/
theorem W4_keeps (c : Dev nD) (r : Ref sig .tc) (h : r ∉ ([main_v0, main_v1, main_v2, main_v3_0, main_v3_1, main_v3_2, main_v3_3, main_v4, main_v5] : List (Ref sig .tc))) :
    W4 m c (Proc.devRef .tc r) = m ((c : Thread nD τ).loc r) := by
  have h1 : ∀ w, Pipeline.arrRef spec1 w = r → (cfg1.win w).isOut = false := fun w e => by
    subst e; revert h; revert w; decide
  have h0 : ∀ w, Pipeline.arrRef spec0 w = r → (cfg0.win w).isOut = false := fun w e => by
    subst e; revert h; revert w; decide
  refine (Pipeline.afterRegion_keeps (dat1 m c) (W3 m c) launch1.win.arr_inj (dat1_A m c) r h1).trans ?_
  refine (StableHlo.after_of_writes_sub hostOps1 _ hostOps1_writes (fun e => h (by
    revert e; simp only [hostOps1_W, List.mem_cons, List.mem_nil_iff, or_false]; tauto))).trans ?_
  refine (Pipeline.afterRegion_keeps (dat0 m c) (W1 m c) launch0.win.arr_inj (dat0_A m c) r h0).trans ?_
  exact StableHlo.after_of_writes_sub hostOps0 _ hostOps0_writes (fun e => h (by
    revert e; simp only [hostOps0_W, List.mem_cons, List.mem_nil_iff, or_false]; tauto))

-- the run theorem's implicit arguments are found by unifying its conclusion with this one, which takes unfolding plain
-- definitions in a metavariable's type
set_option backward.isDefEq.respectTransparency.types false in
/-- From any memory with zero counters every weakly fair execution of @main terminates, and every final state has every
    unscoped buffer at `W4` and every semaphore counter at zero. -/
theorem run_main : θ_run defs (onTc (τ := τ) (main (F := F))) ⟨m, fun _ => 0, ρ⟩ (fun r =>
    (∀ (c : Dev nD) (b : Ref sig .tc), b.isScoped = false → r.2.mem ((c.tc : Thread nD τ).loc b) = W4 m c (Proc.devRef .tc b))
      ∧ r.2.sem = fun _ => 0) := by
  refine Pipeline.θ_run_regions_kit_dev_sems (pcfgs (F := F)) adm (pdats m) () cellOf_inj emb₁ defs₀ Variants.none noL noLv m ρ main
    (mainSegs m)
    (fun c Q => by
      rewrite [main_chain c, Pipeline.Seg.run_eq_chain,
        show (mainSegs m c).map Pipeline.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (W0 m c) ∗ side c))
    (Tₙ := fun c => StableHlo.held (c.tc : Thread nD τ) (Pipeline.ucRefs τ sig) (W4 m c))
    (hch := fun c => ⟨.rfl, .rfl, .rfl, .rfl,
      (show iprop(StableHlo.held (c.tc : Thread nD τ) (Pipeline.ucRefs τ sig) (W4 m c)
          ∗ (∃ r, prngReg c r) ∗ ∃ W, owes (c.tc : Thread nD τ) (0 : CellTallies nD τ sig Unit) W) ⊢ (_ : sProp 𝕄) from by
        iintro ⟨Hh, -, HO⟩
        isplitl [Hh] <;> iassumption)⟩)
    (hinit := by
      refine Pipeline.initEach noL noLv fun c => ?_
      rw [show unscopedBufs c (fun b => m ((c.tc : Thread nD τ).loc b)) = StableHlo.held (c.tc : Thread nD τ) (Pipeline.ucRefs τ sig) (W0 m c)
          from Pipeline.unscopedBufs_held (Ix := Unit) (Name := ℕ) (U := UR sig nD τ) (Lvl := ℕ) c (W0 m c)]
      iintro ⟨⟨Hh, -, HO, -, Hp, -⟩, -⟩
      imodintro
      isplitl [Hh]; · iexact Hh
      isplitl [Hp]; · iexists _; iexact Hp
      iexists _; iexact HO)
    (QY := fun c s => ∀ b ∈ Pipeline.ucRefs τ sig, s.mem ((c.tc : Thread nD τ).1, b) = W4 m c b)
    (hfin := fun c s' => by
      unfold StableHlo.held
      iintro ⟨Hh, HSI⟩
      ihave Hr := (pointsTo_read_all (Pipeline.ucRefs τ sig) (fun b => ((c.tc : Thread nD τ).1, b)) (W4 m c) s') $$ [Hh HSI]
      · isplitl [Hh] <;> iassumption
      imodintro; iexact Hr)
    (hQ := fun _ h hz => ⟨fun c b hb => h c (Proc.devRef .tc b) (Pipeline.devRef_mem_ucRefs hb),
      funext fun g => hz g (.inr (regions_no_unscoped g.2))⟩)

/-- Every execution ends with each argument as launched and every semaphore counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(h.1 c main_arg0 rfl).trans (W4_keeps m c _ (by decide)), (h.1 c main_arg1 rfl).trans (W4_keeps m c _ (by decide)),
      (h.1 c main_arg2 rfl).trans (W4_keeps m c _ (by decide)), (h.1 c main_arg3 rfl).trans (W4_keeps m c _ (by decide)),
      (h.1 c main_arg4 rfl).trans (W4_keeps m c _ (by decide)), (h.1 c main_arg5 rfl).trans (W4_keeps m c _ (by decide))⟩, h.2⟩)
    (run_main m ρ)

end Cert.KernelIdeal.Hand

end
-- ==== Proof.RefFrame.lean ====
/- The reference's run, read where nothing is written: every buffer outside the lists of written ones ends as launched,
   and the reference declares no semaphore. -/
module

public import proofs.«01_k».proof.Defs
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.ReferenceIdeal.Hand

open Idealize.ShloMosaic Idealize.SL.Sem Cert.ReferenceIdeal Cert.ReferenceIdeal.Gen Cert.ReferenceIdeal.Value
open Idealize.ShloMosaic.StableHlo

variable {F : FTy → Type} [FloatOps F]

/-- A buffer that none of a list of stretches writes is kept by the stretches. -/
theorem afterL_keeps (b : DevRef τ sig) : ∀ (items : List (List (HloOp τ sig (Elt F)))) (V : Valuation τ sig (Elt F)),
    (∀ ops ∈ items, ∀ U : Valuation τ sig (Elt F), after ops U b = U b) → afterL items V b = V b
  | [], _, _ => rfl
  | ops :: rest, V, h => by
    rw [afterL_cons, afterL_keeps b rest _ fun o ho => h o (List.mem_cons_of_mem _ ho), h ops List.mem_cons_self]

/-- The buffers the five stretches after the loop write. -/
abbrev hostOps0_4_W : List (Ref sig .tc) := [main_v20, main_v21, main_v22, main_cst_4, main_v23, main_v24, main_v25]
abbrev hostOps0_5_W : List (Ref sig .tc) := [main_call5_call0_c, main_call5_call0_v0, main_v26]
abbrev hostOps0_6_W : List (Ref sig .tc) := [main_c_5, main_v27, main_v28, main_c_6, main_v29, main_v30, main_v31, main_v32]
abbrev hostOps0_7_W : List (Ref sig .tc) := [main_call6_c, main_call6_v0, main_call6_v1, main_call6_c_0, main_call6_v2, main_call6_v3,
  main_call6_v4, main_call6_v5, main_call6_c_1, main_call6_c_2, main_call6_v6, main_call6_v7, main_call6_v8, main_call6_v9,
  main_call6_v10, main_call6_v11, main_call6_c_3, main_call6_v12, main_call6_v13, main_call6_cst, main_call6_v14, main_v33]
abbrev hostOps0_8_W : List (Ref sig .tc) := [main_v34, main_v35, main_cst_7, main_v36, main_v37, main_cst_8, main_v38, main_v39, main_v40,
  main_v41, main_cst_9, main_v42, main_v43, main_v44, main_v45, main_v46, main_v47, main_v48, main_v49, main_v50]

theorem hostOps0_4_writes : (hostOps0_4 : List (HloOp τ sig (Elt F))).Forall fun op => op.writes ⊆ (hostOps0_4_W.map (Proc.devRef (τ := τ) .tc)).toFinset :=
  forall_writes_sub_of_map rfl
theorem hostOps0_5_writes : (hostOps0_5 : List (HloOp τ sig (Elt F))).Forall fun op => op.writes ⊆ (hostOps0_5_W.map (Proc.devRef (τ := τ) .tc)).toFinset :=
  forall_writes_sub_of_map rfl
theorem hostOps0_6_writes : (hostOps0_6 : List (HloOp τ sig (Elt F))).Forall fun op => op.writes ⊆ (hostOps0_6_W.map (Proc.devRef (τ := τ) .tc)).toFinset :=
  forall_writes_sub_of_map rfl
theorem hostOps0_7_writes : (hostOps0_7 : List (HloOp τ sig (Elt F))).Forall fun op => op.writes ⊆ (hostOps0_7_W.map (Proc.devRef (τ := τ) .tc)).toFinset :=
  forall_writes_sub_of_map rfl
theorem hostOps0_8_writes : (hostOps0_8 : List (HloOp τ sig (Elt F))).Forall fun op => op.writes ⊆ (hostOps0_8_W.map (Proc.devRef (τ := τ) .tc)).toFinset :=
  forall_writes_sub_of_map rfl

/-- A buffer that the stretches before the loop do not write enters the loop as launched. -/
theorem pre_keeps (V : Valuation τ sig (Elt F)) (r : Ref sig .tc) (h : r ∉ hostOps0_W ++ hostOps0_1_W ++ hostOps0_2_W ++ hostOps0_3_W) :
    afterL preI V (Proc.devRef .tc r) = V (Proc.devRef .tc r) := by
  simp only [List.mem_append, not_or] at h
  refine afterL_keeps _ _ _ fun ops ho U => ?_
  simp only [preI, List.mem_cons, List.mem_nil_iff, or_false] at ho
  rcases ho with rfl | rfl | rfl | rfl
  · exact after_of_writes_sub _ _ hostOps0_writes h.1.1.1
  · exact after_of_writes_sub _ _ hostOps0_1_writes h.1.1.2
  · exact after_of_writes_sub _ _ hostOps0_2_writes h.1.2
  · exact after_of_writes_sub _ _ hostOps0_3_writes h.2

/-- A buffer that the loop's body does not write is kept by one trip. -/
theorem body_keeps (V : Valuation τ sig (Elt F)) (r : Ref sig .tc)
    (h : r ∉ while0Ops0_W ++ while0Ops0_1_W ++ while0Ops0_2_W ++ while0Ops0_3_W ++ while0Ops0_4_W) :
    afterL bodyI V (Proc.devRef .tc r) = V (Proc.devRef .tc r) := by
  simp only [List.mem_append, not_or] at h
  refine afterL_keeps _ _ _ fun ops ho U => ?_
  simp only [bodyI, List.mem_cons, List.mem_nil_iff, or_false] at ho
  rcases ho with rfl | rfl | rfl | rfl | rfl
  · exact after_of_writes_sub _ _ while0Ops0_writes h.1.1.1.1
  · exact after_of_writes_sub _ _ while0Ops0_1_writes h.1.1.1.2
  · exact after_of_writes_sub _ _ while0Ops0_2_writes h.1.1.2
  · exact after_of_writes_sub _ _ while0Ops0_3_writes h.1.2
  · exact after_of_writes_sub _ _ while0Ops0_4_writes h.2

/-- Every buffer the loop writes. -/
abbrev loopW : List (Ref sig .tc) := condOps_W ++ (while0Ops0_W ++ while0Ops0_1_W ++ while0Ops0_2_W ++ while0Ops0_3_W ++ while0Ops0_4_W)

/-- A buffer that the loop does not write is, after any number of trips, as at the loop's entry. -/
theorem loop_keeps (m : (ℓ : Loc nD τ sig) → Buf (Elt F) ℓ) (c : Dev nD) (r : Ref sig .tc) (h : r ∉ loopW) (k : ℕ) :
    atK m k c (Proc.devRef .tc r) = entryContents preI m c (Proc.devRef .tc r) := by
  rw [List.mem_append, not_or] at h
  induction k with
  | zero => rfl
  | succ k ih =>
    exact (body_keeps _ r h.2).trans ((after_of_writes_sub _ _ condOps_writes h.1).trans ih)

/-- A buffer that the stretches after the loop do not write ends as the loop leaves it. -/
theorem post_keeps (V : Valuation τ sig (Elt F)) (r : Ref sig .tc)
    (h : r ∉ hostOps0_4_W ++ hostOps0_5_W ++ hostOps0_6_W ++ hostOps0_7_W ++ hostOps0_8_W) :
    afterL postI V (Proc.devRef .tc r) = V (Proc.devRef .tc r) := by
  simp only [List.mem_append, not_or] at h
  refine afterL_keeps _ _ _ fun ops ho U => ?_
  simp only [postI, List.mem_cons, List.mem_nil_iff, or_false] at ho
  rcases ho with rfl | rfl | rfl | rfl | rfl
  · exact after_of_writes_sub _ _ hostOps0_4_writes h.1.1.1.1
  · exact after_of_writes_sub _ _ hostOps0_5_writes h.1.1.1.2
  · exact after_of_writes_sub _ _ hostOps0_6_writes h.1.1.2
  · exact after_of_writes_sub _ _ hostOps0_7_writes h.1.2
  · exact after_of_writes_sub _ _ hostOps0_8_writes h.2

/-- A buffer that no operation of the reference writes ends as launched. -/
theorem final_keeps (m : (ℓ : Loc nD τ sig) → Buf (Elt F) ℓ) (c : Dev nD) (r : Ref sig .tc)
    (h : r ∉ (hostOps0_W ++ hostOps0_1_W ++ hostOps0_2_W ++ hostOps0_3_W) ++ loopW ++
      (hostOps0_4_W ++ hostOps0_5_W ++ hostOps0_6_W ++ hostOps0_7_W ++ hostOps0_8_W)) :
    finalContents condOps preI bodyI postI 2047 m c (Proc.devRef .tc r) = m ((c.tc : Thread nD τ).loc r) := by
  rw [List.mem_append, not_or, List.mem_append, not_or] at h
  have hc : r ∉ condOps_W := fun e => h.1.2 (List.mem_append_left _ e)
  exact (post_keeps _ r h.2).trans ((after_of_writes_sub _ _ condOps_writes hc).trans ((loop_keeps m c r h.1.2 2047).trans (pre_keeps _ r h.1.1)))

/-- Every execution of the reference ends with its six arguments as launched and every semaphore counter at zero. -/
theorem run_frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run (defs (F := F)) _ _).mono (fun r h => ⟨fun c =>
    ⟨(h c main_arg0 rfl).trans (final_keeps m c _ (by decide)), (h c main_arg1 rfl).trans (final_keeps m c _ (by decide)),
      (h c main_arg2 rfl).trans (final_keeps m c _ (by decide)), (h c main_arg3 rfl).trans (final_keeps m c _ (by decide)),
      (h c main_arg4 rfl).trans (final_keeps m c _ (by decide)), (h c main_arg5 rfl).trans (final_keeps m c _ (by decide))⟩,
    Idealize.ShloMosaic.sem_eq_zero_of_no_sems (by decide) r.2⟩) (run_fold m ρ)

end Cert.ReferenceIdeal.Hand

end
-- ==== Proof.Frames.lean ====
/- The certificate's frame claims, its one idealized constant, and the side conditions its precondition states. -/
module

public import proofs.«01_k».proof.Defs
public import proofs.«01_k».proof.Proof.PrintedRun
public import proofs.«01_k».proof.Proof.IdealRun
public import proofs.«01_k».proof.Proof.RefFrame

@[expose] public section

noncomputable section

namespace Cert.Hand

open Idealize.ShloMosaic

/-- The side conditions of the precondition's operations: broadcasts of a scalar, reductions over both dimensions, the
    slice past the first column, and that the scalar shape has an element. -/
instance rangeFacts : Cert.Pre_in_range.Facts where
  bcast_S_S8x2048 := @Cert.ReferenceIdeal.Gen.bcast_S_S8x2048
  reducesTo_S8x2048_S_d0_1 := by decide
  h_S_ := @Cert.ReferenceIdeal.Gen.h_S_
  slices_S8x2048_S8x2047_0_1 := ⟨rfl, by decide⟩
  bcast_S_S8x2047 := by decide
  reducesTo_S8x2047_S_d0_1 := by decide

/-- The printed kernel's frame. -/
theorem frame_kernel : Cert.quiescent_Kernel := fun m g _ => Cert.Kernel.Hand.run_frame m g
/-- The idealized kernel's frame. -/
theorem frame_ideal : Cert.quiescent_KernelIdeal := fun m g _ => Cert.KernelIdeal.Hand.run_frame m g
/-- The idealized kernel's frame, from a memory the precondition admits. -/
theorem frame_ideal_range : Cert.quiescent_KernelIdeal_pre_in_range := fun m g _ => Cert.KernelIdeal.Hand.run_frame m g
/-- The reference's frame. -/
theorem frame_reference : Cert.quiescent_ReferenceIdeal := fun m g _ => Cert.ReferenceIdeal.Hand.run_frame m g
/-- The reference's frame, from a memory the precondition admits. -/
theorem frame_reference_range : Cert.quiescent_ReferenceIdeal_pre_in_range := fun m g _ => Cert.ReferenceIdeal.Hand.run_frame m g
/-- The one rewrite of the idealized kernel: the mask literal is the named constant `mask`, which is `⊥`. -/
theorem preserves : Cert.preserves_Kernel_KernelIdeal :=
  IdealRules.named_const.statement Cert.KernelIdeal.κ "mask" .f32 0xF149F2CA#32 ⊥ rfl

end Cert.Hand

end
-- ==== Proof.Smooth.lean ====
/-
  The mathematics of the certificate, on the extended reals: the smoothing recurrence is a weighted sum of the tokens,
  the weights being exponentials of differences of prefix sums of log decays.

  Everything here is for one batch row: `B` gives the boundary probability at a position (a real), `I` the position of a
  boundary. Positions and boundaries are natural numbers.
-/
module

public import Idealize.ShloMosaic.PureOps.Ideal
public import Idealize.ShloMosaic.Lib.IdealHost

@[expose] public section

noncomputable section

namespace Cert.Smooth

open Idealize.ShloMosaic

/-! ## The constants -/

/-- The floor of the probabilities, the f32 nearest one tenth. -/
def tenth : ℝ := 13421773 / 134217728
/-- The floor of the decays, the f32 nearest one ten-millionth. -/
def eps : ℝ := 14073749 / 140737488355328

theorem tenth_pos : 0 < tenth := by unfold tenth; norm_num
theorem eps_pos : 0 < eps := by unfold eps; norm_num

/-- The f32 pattern of the probabilities' floor, as a real. -/
theorem ofBits_tenth : Ideal.ofBits .f32 0x3DCCCCCD#32 = (tenth : EReal) := by
  unfold tenth
  simp [Ideal.ofBits, Ideal.ieee, -EReal.coe_mul]; norm_num
/-- The f32 pattern of the decays' floor, as a real. -/
theorem ofBits_eps : Ideal.ofBits .f32 0x33D6BF95#32 = (eps : EReal) := by
  unfold eps
  simp [Ideal.ofBits, Ideal.ieee, -EReal.coe_mul]; norm_num
/-- The f32 pattern of one half, as a real. -/
theorem ofBits_half : Ideal.ofBits .f32 0x3F000000#32 = ((1 / 2 : ℝ) : EReal) := by
  simp [Ideal.ofBits, Ideal.ieee, -EReal.coe_mul]; norm_num
/-- The f32 pattern of minus infinity. -/
theorem ofBits_neg_inf : Ideal.ofBits .f32 0xFF800000#32 = ⊥ := by
  simp [Ideal.ofBits, Ideal.ieee]
/-- The f32 pattern that fills a gather out of range is no number, which is read as minus infinity. -/
theorem ofBits_nan : Ideal.ofBits .f32 0x7FC00000#32 = ⊥ := by
  simp [Ideal.ofBits, Ideal.ieee]
/-- The f32 pattern of plus infinity. -/
theorem ofBits_inf : Ideal.ofBits .f32 0x7F800000#32 = ⊤ := by
  simp [Ideal.ofBits, Ideal.ieee]

/-! ## The scalars of one batch row -/

/-- The probability at boundary `m`, floored. -/
def pAt (B : ℕ → ℝ) (I : ℕ → ℕ) (m : ℕ) : ℝ := max (B (I m)) tenth
/-- The boundary indices are words, and one that is no position has probability zero. -/
def Fits (B : ℕ → ℝ) (I : ℕ → ℕ) : Prop := ∀ m, m < 2048 → I m < 2 ^ 32 ∧ (2048 ≤ I m → B (I m) = 0)
/-- The weight of token `m` where it enters: one at the first. -/
def qAt (B : ℕ → ℝ) (I : ℕ → ℕ) (m : ℕ) : ℝ := if m = 0 then 1 else pAt B I m
/-- The decay at boundary `m`. -/
def aAt (B : ℕ → ℝ) (I : ℕ → ℕ) (m : ℕ) : ℝ := max (1 - pAt B I m) eps
/-- The logarithm of the decay, zero at the first boundary. -/
def lgAt (B : ℕ → ℝ) (I : ℕ → ℕ) (m : ℕ) : ℝ := if m = 0 then 0 else Real.log (aAt B I m)
/-- The log decays summed up to and including boundary `n`. -/
def sumAt (B : ℕ → ℝ) (I : ℕ → ℕ) (n : ℕ) : ℝ := ∑ j ∈ Finset.range (n + 1), lgAt B I j
/-- How many positions up to and including `t` have a probability of at least one half. -/
def countAt (B : ℕ → ℝ) (t : ℕ) : ℕ := ∑ s ∈ Finset.range (t + 1), if 1 / 2 ≤ B s then 1 else 0
/-- The plug-back position of `t`: that count less one, but not below zero. -/
def plugAt (B : ℕ → ℝ) (t : ℕ) : ℕ := countAt B t - 1

theorem aAt_pos (B : ℕ → ℝ) (I : ℕ → ℕ) (m : ℕ) : 0 < aAt B I m := lt_of_lt_of_le eps_pos (le_max_right _ _)

theorem countAt_le (B : ℕ → ℝ) (t : ℕ) : countAt B t ≤ t + 1 := by
  refine (Finset.sum_le_sum (g := fun _ => 1) fun s _ => ?_).trans (by simp)
  split <;> simp
/-- The plug-back position of `t` is at most `t`. -/
theorem plugAt_le (B : ℕ → ℝ) (t : ℕ) : plugAt B t ≤ t := by
  have := countAt_le B t
  unfold plugAt; omega

/-- The smoothing recurrence over the tokens `C`. -/
def hAt (B : ℕ → ℝ) (I : ℕ → ℕ) (C : ℕ → EReal) : ℕ → EReal
  | 0 => C 0
  | n + 1 => (aAt B I (n + 1) : EReal) * hAt B I C n + (pAt B I (n + 1) : EReal) * C (n + 1)

/-- A nonnegative real factor distributes over a sum of extended reals. -/
theorem coe_mul_sum {ι : Type} (a : ℝ) (ha : 0 ≤ a) (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (EReal.coe_nonneg.mpr ha) (EReal.coe_ne_top a), ih]

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The recurrence's `n`-th state is the sum of the tokens up to `n`, each weighted by the exponential of the log decays
    after it and by its own weight. -/
theorem hAt_eq (B : ℕ → ℝ) (I : ℕ → ℕ) (C : ℕ → EReal) (n : ℕ) :
    hAt B I C n = ∑ j ∈ Finset.range (n + 1), ((Real.exp (sumAt B I n - sumAt B I j) * qAt B I j : ℝ) : EReal) * C j := by
  induction n with
  | zero => simp [hAt, qAt]
  | succ n ih =>
    have hs : sumAt B I (n + 1) = sumAt B I n + Real.log (aAt B I (n + 1)) := by
      simp [sumAt, Finset.sum_range_succ _ (n + 1), lgAt]
    rw [Finset.sum_range_succ, sub_self, Real.exp_zero, one_mul]
    show (aAt B I (n + 1) : EReal) * hAt B I C n + (pAt B I (n + 1) : EReal) * C (n + 1) = _
    rw [show qAt B I (n + 1) = pAt B I (n + 1) from if_neg (Nat.succ_ne_zero n), ih, coe_mul_sum _ (aAt_pos B I _).le]
    refine congrArg (· + _) (Finset.sum_congr rfl fun j _ => ?_)
    rw [← mul_assoc, ← EReal.coe_mul]
    refine congrArg (fun r : ℝ => (r : EReal) * C j) ?_
    rw [hs, show sumAt B I n + Real.log (aAt B I (n + 1)) - sumAt B I j = Real.log (aAt B I (n + 1)) + (sumAt B I n - sumAt B I j) by ring,
      Real.exp_add, Real.exp_log (aAt_pos B I _), mul_assoc]

/-- The weight the second kernel gives token `j` at plug-back position `n`. -/
def weightAt (B : ℕ → ℝ) (I : ℕ → ℕ) (n j : ℕ) : ℝ := if j ≤ n then Real.exp (sumAt B I n - sumAt B I j) * qAt B I j else 0

/-- The recurrence's state as a sum over all 2048 tokens, those after `n` at weight zero. -/
theorem hAt_eq_sum (B : ℕ → ℝ) (I : ℕ → ℕ) (C : ℕ → EReal) (n : ℕ) (hn : n < 2048) :
    hAt B I C n = ∑ j ∈ Finset.range 2048, (weightAt B I n j : EReal) * C j := by
  rw [hAt_eq, ← Finset.sum_subset (Finset.range_mono (Nat.succ_le_of_lt hn))]
  · refine Finset.sum_congr rfl fun j hj => ?_
    rw [weightAt, if_pos (by have := Finset.mem_range.mp hj; omega)]
  · intro j _ hj
    rw [weightAt, if_neg (fun h => hj (Finset.mem_range.mpr (Nat.lt_succ_of_le h))), EReal.coe_zero, zero_mul]

end Cert.Smooth

end
-- ==== Proof.IdealValue1.lean ====
/-
  The first kernel's four output blocks at the extended reals, one batch row: the floored probabilities, the prefix sums
  of the log decays, and per position the plug-back position and the log decays summed up to it.
-/
module

public import proofs.«01_k».proof.Proof.IdealStage1
public import proofs.«01_k».proof.Proof.Smooth
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen Cert.Smooth
open Idealize.ShloMosaic Idealize.ShloMosaic.WordCmp

/-! ## The chunked expressions the body repeats -/

/-- One chunk of the gather: the 256 probabilities `v` from position `o` on, each where the boundary is at its position. -/
def gatherChunk (o : BitVec 32) (v : FVec Ideal S256x1 .f32) (bi : IVec S1x2048 32) : FVec Ideal S1x2048 .f32 :=
  shapeCast S1x2048 (multiReduction .add [0] S2048
    (mulf (sitofp .f32 (extui 32 (cmpi .eq (addi rowI (broadcast S256x2048 o)) (broadcastTo S256x2048 bi broadcasts_S1x2048_S256x2048)) natLt_1_32))
      (broadcastTo S256x2048 v broadcasts_S256x1_S256x2048)) 0x00000000#32 reduces_S256x2048_S2048 (.inl rfl) rfl) shapeCasts_S2048_S1x2048

/-- One chunk of the prefix sums: the 256 log decays `v` from boundary `o` on, each where its boundary is not after the lane. -/
def prefixChunk (o : BitVec 32) (v : FVec Ideal S1x256 .f32) : FVec Ideal S1x2048 .f32 :=
  matmul dot_S1x256_S256x2048_S1x2048_1_0_0_1_n_n (some .fp32) v
    (sitofp .f32 (extui 32 (cmpi .sle (addi rowI (broadcast S256x2048 o)) (iota .tc S256x2048 32 [1] iota_S256x2048_d1_w32)) natLt_1_32))
    (constant S1x2048 .f32 0x00000000#32)

/-- Where a chunk of positions from `o` on has a lane that is not after the position. -/
def notAfter (o : BitVec 32) : IVec S256x2048 1 :=
  cmpi .sle (iota .tc S256x2048 32 [1] iota_S256x2048_d1_w32) (addi rowI (broadcast S256x2048 o))

/-- A chunk's plug-back positions from the mask. -/
def plugChunk (sel : IVec S256x2048 1) (mask : FVec Ideal S1x2048 .f32) : FVec Ideal S256x1 .f32 :=
  maximumf (subf (shapeCast S256x1 (multiReduction .add [1] S256 (select sel
      (broadcastTo S256x2048 (shapeCast S1x2048 mask shapeCasts_S1x2048_S1x2048) broadcasts_S1x2048_S256x2048)
      (broadcast S256x2048 (Scalar.ofBits .f32 0x00000000#32))) 0x00000000#32 reduces_S256x2048_S256 (.inl rfl) rfl) shapeCasts_S256_S256x1)
    (broadcast S256x1 (Scalar.ofBits .f32 0x3F800000#32))) (broadcast S256x1 (Scalar.ofBits .f32 0x00000000#32))

/-- A chunk's log decays summed up to its plug-back positions. -/
def upToChunk (loga lanes : FVec Ideal S1x2048 .f32) (pb : FVec Ideal S256x1 .f32) : FVec Ideal S1x256x1 .f32 :=
  shapeCast S1x256x1 (shapeCast S256x1 (multiReduction .add [1] S256 (select
      (cmpf .ole (broadcastTo S256x2048 lanes broadcasts_S1x2048_S256x2048) (broadcastTo S256x2048 pb broadcasts_S256x1_S256x2048))
      (broadcastTo S256x2048 (shapeCast S1x2048 loga shapeCasts_S1x2048_S1x2048) broadcasts_S1x2048_S256x2048)
      (broadcast S256x2048 (Scalar.ofBits .f32 0x00000000#32))) 0x00000000#32 reduces_S256x2048_S256 (.inl rfl) rfl) shapeCasts_S256_S256x1)
    shapeCasts_S256x1_S1x256x1

/-! ## Sums over chunks and over lanes -/

/-- A bit as a float is one where the proposition holds and zero elsewhere. -/
theorem sitofp_bit (p : Prop) [Decidable p] :
    (FloatOps.sitofp .f32 (BitVec.setWidth 32 (BitVec.ofBool (decide p))) : Ideal .f32) = if p then (1 : EReal) else 0 := by
  by_cases h : p <;> simp [h, FloatOps.sitofp]

/-- The sum of `f` over the 256 positions from `o` on. -/
def chunkSum (f : ℕ → EReal) (o : ℕ) : EReal := ∑ x : Fin 256, f (o + x)

/-- The first `n` terms and the chunk of terms after them are the first `n + 256` terms. -/
theorem range_chunk (f : ℕ → EReal) (n : ℕ) : ∑ s ∈ Finset.range n, f s + chunkSum f n = ∑ s ∈ Finset.range (n + 256), f s := by
  rw [Finset.sum_range_add, chunkSum, Finset.sum_range (fun x => f (n + x))]

/-- Eight chunks added up one after another are the whole sum. -/
theorem chunks (f : ℕ → EReal) :
    chunkSum f 0 + chunkSum f 256 + chunkSum f 512 + chunkSum f 768 + chunkSum f 1024 + chunkSum f 1280 + chunkSum f 1536
      + chunkSum f 1792 = ∑ s ∈ Finset.range 2048, f s := by
  rw [← zero_add (chunkSum f 0), show (0 : EReal) = ∑ s ∈ Finset.range 0, f s from rfl]
  simp only [range_chunk, Nat.reduceAdd]

/-- Summing the terms up to `n`, the others at zero. -/
theorem sum_upto (f : ℕ → EReal) (n : ℕ) (hn : n < 2048) :
    ∑ x ∈ Finset.range 2048, (if x ≤ n then f x else 0) = ∑ x ∈ Finset.range (n + 1), f x := by
  rw [← Finset.sum_filter]
  refine congrArg (fun s => ∑ x ∈ s, f x) (Finset.ext fun x => ?_)
  simp only [Finset.mem_filter, Finset.mem_range]; omega

/-- A position of a chunk as a word. -/
theorem chunk_word (x o : ℕ) : IntOp.addi (BitVec.ofNat 32 x) (BitVec.ofNat 32 o) = BitVec.ofNat 32 (o + x) := by
  show BitVec.ofNat 32 x + BitVec.ofNat 32 o = _
  rw [← BitVec.ofNat_add, Nat.add_comm]

/-- Words are equal as their naturals are, -/
theorem word_eq (a b : ℕ) (ha : a < 2 ^ 32) (hb : b < 2 ^ 32) :
    IntOp.cmpi .eq (BitVec.ofNat 32 a) (BitVec.ofNat 32 b) = BitVec.ofBool (decide (a = b)) := by
  rw [cmpi_eq_eq_toNat, BitVec.toNat_ofNat, BitVec.toNat_ofNat, Nat.mod_eq_of_lt (by omega), Nat.mod_eq_of_lt (by omega)]
/-- and small ones are ordered likewise. -/
theorem word_le (a b : ℕ) (ha : a < 2 ^ 31) (hb : b < 2 ^ 31) :
    IntOp.cmpi .sle (BitVec.ofNat 32 a) (BitVec.ofNat 32 b) = BitVec.ofBool (decide (a ≤ b)) := cmpi_sle_ofNat ha hb

/-! ## The chunks at an index -/

/-- A gather chunk sums the probabilities of its positions that are the boundary's. -/
theorem gatherChunk_at (o : ℕ) (ho : o ≤ 1792) (v : FVec Ideal S256x1 .f32) (bi : IVec S1x2048 32) (B : ℕ → ℝ) (n : ℕ) (hn : n < 2 ^ 32)
    (m : Fin 2048) (hv : ∀ x : Fin 256, v (ix2 x 0) = (B (o + x) : EReal)) (hb : bi (ix2 0 m) = BitVec.ofNat 32 n) :
    gatherChunk (BitVec.ofNat 32 o) v bi (ix2 0 m) = chunkSum (fun s => if s = n then (B s : EReal) else 0) o := by
  pointwise [gatherChunk, rowI]
  refine Finset.sum_congr rfl fun x _ => ?_
  have := x.isLt
  rw [hv, hb, chunk_word, word_eq _ _ (by omega) (by omega), sitofp_bit]
  show _ = if o + (x : ℕ) = n then (B (o + x) : EReal) else 0
  split_ifs <;> simp

/-- A chunk of the prefix sums adds the log decays of its boundaries up to the lane. -/
theorem prefixChunk_at (o : ℕ) (ho : o ≤ 1792) (v : FVec Ideal S1x256 .f32) (L : ℕ → ℝ) (m : Fin 2048)
    (hv : ∀ x : Fin 256, v (ix2 0 x) = (L (o + x) : EReal)) :
    prefixChunk (BitVec.ofNat 32 o) v (ix2 0 m) = chunkSum (fun s => if s ≤ m then (L s : EReal) else 0) o := by
  pointwise [prefixChunk, rowI]
  refine Finset.sum_congr rfl fun x _ => ?_
  have := x.isLt
  have := m.isLt
  rw [hv, chunk_word, word_le _ _ (by omega) (by omega), sitofp_bit]
  show _ = if o + (x : ℕ) ≤ m then (L (o + x) : EReal) else 0
  split_ifs <;> simp

/-- A plug-back chunk holds the plug-back positions of its positions. -/
theorem plugChunk_at (o : ℕ) (ho : o ≤ 1792) (v : FVec Ideal S1x2048 .f32) (B : ℕ → ℝ) (m : Fin 256)
    (hv : ∀ x : Fin 2048, v (ix2 0 x) = if 1 / 2 ≤ B x then (1 : EReal) else 0) :
    plugChunk (notAfter (BitVec.ofNat 32 o)) v (ix2 m 0) = ((plugAt B (o + m) : ℝ) : EReal) := by
  have := m.isLt
  pointwise [plugChunk, rowI, notAfter]
  have e : (∑ x : Fin 2048, Scalar.select (IntOp.cmpi .sle (BitVec.ofNat 32 ↑x) (IntOp.addi (BitVec.ofNat 32 ↑m) (BitVec.ofNat 32 o))) (v (ix2 0 x)) 0 : EReal)
      = ((countAt B (o + m) : ℝ) : EReal) := by
    rw [countAt, Nat.cast_sum, coe_sum, ← sum_upto _ _ (by omega), Finset.sum_range]
    refine Finset.sum_congr rfl fun x _ => ?_
    have := x.isLt
    rw [hv, chunk_word, word_le _ _ (by omega) (by omega), Scalar.select]
    by_cases h : (x : ℕ) ≤ o + m <;> by_cases h' : 1 / 2 ≤ B x <;> simp only [h, h', if_true, if_false, decide_true, decide_false] <;> simp
  rw [e, plugAt]
  have e1 : ((countAt B (o + m) : ℝ) : EReal) - 1 = ((countAt B (o + m) : ℝ) - 1 : ℝ) := by rw [EReal.coe_sub]; rfl
  rw [e1, ← EReal.coe_zero, ← EReal.coe_strictMono.monotone.map_max]
  refine congrArg _ ?_
  rcases Nat.eq_zero_or_pos (countAt B (o + m)) with h | h
  · simp [h]
  · rw [Nat.cast_sub h, Nat.cast_one, max_eq_left]
    exact sub_nonneg.mpr (Nat.one_le_cast.mpr h)

/-- The log decays summed up to a plug-back position are its prefix sum. -/
theorem upToChunk_at (loga lanes : FVec Ideal S1x2048 .f32) (pb : FVec Ideal S256x1 .f32) (B : ℕ → ℝ) (I : ℕ → ℕ) (n : ℕ) (hn : n < 2048)
    (m : Fin 256) (hl : ∀ x : Fin 2048, loga (ix2 0 x) = (lgAt B I x : EReal)) (hx : ∀ x : Fin 2048, lanes (ix2 0 x) = ((x : ℕ) : ℝ))
    (hp : pb (ix2 m 0) = ((n : ℝ) : EReal)) :
    upToChunk loga lanes pb (ix3 0 m 0) = (sumAt B I n : EReal) := by
  pointwise [upToChunk]
  rw [sumAt, coe_sum, ← sum_upto _ _ hn, Finset.sum_range]
  refine Finset.sum_congr rfl fun x _ => ?_
  rw [hx, hp, hl]
  simp only [EReal.coe_le_coe_iff, Nat.cast_le]

/-! ## The rows -/

/-- The row block's offsets are zero. -/
theorem zeros3 : (![0, 0, 0] : Fin 3 → ℕ) = fun _ => 0 := by
  funext a; fin_cases a <;> rfl

section Rows

variable (x0 : Vec Ideal S1x1x2048 .f32) (x1 : Vec Ideal S1x2048x1 .f32) (x2 : Vec Ideal S1x1x2048 .i32) (B : ℕ → ℝ) (I : ℕ → ℕ)

/-- The floored probabilities are the eight gather chunks added up, and floored. -/
theorem floored_eq : k0_pay8 (bpCol x1) (biRow (F := Ideal) x2) (gathered x1 x2) rowI
    = maximumf (addf (addf (addf (addf (addf (addf (addf (addf (broadcast S1x2048 (Scalar.ofBits .f32 0x00000000#32))
        (gatherChunk (BitVec.ofNat 32 0) (extractStridedSlice S256x1 ![0, 0] (bpCol x1) slices_S2048x1_o0_0_S256x1) (biRow (F := Ideal) x2)))
        (gatherChunk (BitVec.ofNat 32 256) (extractStridedSlice S256x1 ![256, 0] (bpCol x1) slices_S2048x1_o256_0_S256x1) (biRow (F := Ideal) x2)))
        (gatherChunk (BitVec.ofNat 32 512) (extractStridedSlice S256x1 ![512, 0] (bpCol x1) slices_S2048x1_o512_0_S256x1) (biRow (F := Ideal) x2)))
        (gatherChunk (BitVec.ofNat 32 768) (extractStridedSlice S256x1 ![768, 0] (bpCol x1) slices_S2048x1_o768_0_S256x1) (biRow (F := Ideal) x2)))
        (gatherChunk (BitVec.ofNat 32 1024) (extractStridedSlice S256x1 ![1024, 0] (bpCol x1) slices_S2048x1_o1024_0_S256x1) (biRow (F := Ideal) x2)))
        (gatherChunk (BitVec.ofNat 32 1280) (extractStridedSlice S256x1 ![1280, 0] (bpCol x1) slices_S2048x1_o1280_0_S256x1) (biRow (F := Ideal) x2)))
        (gatherChunk (BitVec.ofNat 32 1536) (extractStridedSlice S256x1 ![1536, 0] (bpCol x1) slices_S2048x1_o1536_0_S256x1) (biRow (F := Ideal) x2)))
        (gatherChunk (BitVec.ofNat 32 1792) (extractStridedSlice S256x1 ![1792, 0] (bpCol x1) slices_S2048x1_o1792_0_S256x1) (biRow (F := Ideal) x2)))
      (broadcast S1x2048 (Scalar.ofBits .f32 0x3DCCCCCD#32)) := rfl

theorem bpCol_at (l : Fin 2048) : bpCol x1 (ix2 l 0) = x1 (ix3 0 l 0) := by
  pointwise [bpCol, k0_pay4]

theorem biRow_at (m : Fin 2048) : biRow (F := Ideal) x2 (ix2 0 m) = x2 (ix3 0 0 m) := by
  pointwise [biRow, k0_pay5]

/-- A gather chunk of the column. -/
theorem gather_slice (h1 : ∀ l : Fin 2048, x1 (ix3 0 l 0) = (B l : EReal)) (h2 : ∀ m : Fin 2048, x2 (ix3 0 0 m) = BitVec.ofNat 32 (I m))
    (hI : Fits B I) (o : ℕ) (ho : o ≤ 1792) (h : S2048x1.Slices ![o, 0] S256x1) (m : Fin 2048) :
    gatherChunk (BitVec.ofNat 32 o) (extractStridedSlice S256x1 ![o, 0] (bpCol x1) h) (biRow (F := Ideal) x2) (ix2 0 m)
      = chunkSum (fun s => if s = I m then (B s : EReal) else 0) o := by
  refine gatherChunk_at o ho _ _ B _ (hI _ m.isLt).1 m (fun x => ?_) ((biRow_at x2 m).trans (h2 m))
  have := x.isLt
  refine Eq.trans ?_ ((bpCol_at x1 ⟨o + x, by omega⟩).trans (h1 _))
  pointwise

theorem floored_at (h1 : ∀ l : Fin 2048, x1 (ix3 0 l 0) = (B l : EReal)) (h2 : ∀ m : Fin 2048, x2 (ix3 0 0 m) = BitVec.ofNat 32 (I m))
    (hI : Fits B I) (m : Fin 2048) :
    k0_pay8 (bpCol x1) (biRow (F := Ideal) x2) (gathered x1 x2) rowI (ix2 0 m) = (pAt B I m : EReal) := by
  rw [floored_eq]
  pointwise
  simp only [gather_slice x1 x2 B I h1 h2 hI, Nat.reduceLeDiff]
  rw [chunks, Finset.sum_ite_eq', show (if I m ∈ Finset.range 2048 then (B (I m) : EReal) else 0) = (B (I m) : EReal) by
    split_ifs with e
    · rfl
    · rw [(hI _ m.isLt).2 (by rw [Finset.mem_range] at e; omega), EReal.coe_zero], ofBits_tenth, ← EReal.coe_strictMono.monotone.map_max, pAt]

/-- The log decays. -/
theorem logaRow_at (h1 : ∀ l : Fin 2048, x1 (ix3 0 l 0) = (B l : EReal)) (h2 : ∀ m : Fin 2048, x2 (ix3 0 0 m) = BitVec.ofNat 32 (I m))
    (hI : Fits B I) (m : Fin 2048) : logaRow x1 x2 (ix2 0 m) = (lgAt B I m : EReal) := by
  have e := floored_at x1 x2 B I h1 h2 hI m
  have := m.isLt
  pointwise [logaRow, k0_pay9, laneI]
  rw [e, show (0#32 : BitVec 32) = BitVec.ofNat 32 0 from rfl, word_eq _ _ (by omega) (by omega), Scalar.select, ofBits_eps,
    show (1 : EReal) - (pAt B I m : EReal) = ((1 - pAt B I m : ℝ) : EReal) by rw [EReal.coe_sub]; rfl,
    ← EReal.coe_strictMono.monotone.map_max, lgAt]
  change (if _ then (0 : EReal) else Ideal.log ((aAt B I m : ℝ) : EReal)) = _
  rw [Ideal.log_coe, if_neg (not_le.mpr (aAt_pos B I m))]
  by_cases h : (m : ℕ) = 0 <;> simp [h]

theorem outP_at (h1 : ∀ l : Fin 2048, x1 (ix3 0 l 0) = (B l : EReal)) (h2 : ∀ m : Fin 2048, x2 (ix3 0 0 m) = BitVec.ofNat 32 (I m))
    (hI : Fits B I) (m : Fin 2048) : outP x1 x2 (ix3 0 0 m) = (qAt B I m : EReal) := by
  have e := floored_at x1 x2 B I h1 h2 hI m
  have := m.isLt
  rw [outP, View.canon_unit_zero (S := S1x1x2048) zeros3 inb_S1x1x2048_S1x1x2048_0_0_0]
  pointwise [k0_pay10, laneI]
  rw [e, show (0#32 : BitVec 32) = BitVec.ofNat 32 0 from rfl, word_eq _ _ (by omega) (by omega), Scalar.select, qAt]
  by_cases h : (m : ℕ) = 0 <;> simp [h]

/-- The prefix sums are the eight chunks added up. -/
theorem prefix_eq : k0_pay15 (logaRow x1 x2)
    (k0_pay13 (logaRow x1 x2) (k0_pay11 (bpCol x1) (biRow (F := Ideal) x2) laneI (gathered x1 x2) rowI) rowI k0_pay12) rowI k0_pay14
    = shapeCast S1x1x2048 (addf (addf (addf (addf (addf (addf (addf (addf (broadcast S1x2048 (Scalar.ofBits .f32 0x00000000#32))
        (prefixChunk (BitVec.ofNat 32 0) (extractStridedSlice S1x256 ![0, 0] (logaRow x1 x2) slices_S1x2048_o0_0_S1x256)))
        (prefixChunk (BitVec.ofNat 32 256) (extractStridedSlice S1x256 ![0, 256] (logaRow x1 x2) slices_S1x2048_o0_256_S1x256)))
        (prefixChunk (BitVec.ofNat 32 512) (extractStridedSlice S1x256 ![0, 512] (logaRow x1 x2) slices_S1x2048_o0_512_S1x256)))
        (prefixChunk (BitVec.ofNat 32 768) (extractStridedSlice S1x256 ![0, 768] (logaRow x1 x2) slices_S1x2048_o0_768_S1x256)))
        (prefixChunk (BitVec.ofNat 32 1024) (extractStridedSlice S1x256 ![0, 1024] (logaRow x1 x2) slices_S1x2048_o0_1024_S1x256)))
        (prefixChunk (BitVec.ofNat 32 1280) (extractStridedSlice S1x256 ![0, 1280] (logaRow x1 x2) slices_S1x2048_o0_1280_S1x256)))
        (prefixChunk (BitVec.ofNat 32 1536) (extractStridedSlice S1x256 ![0, 1536] (logaRow x1 x2) slices_S1x2048_o0_1536_S1x256)))
        (prefixChunk (BitVec.ofNat 32 1792) (extractStridedSlice S1x256 ![0, 1792] (logaRow x1 x2) slices_S1x2048_o0_1792_S1x256)))
      shapeCasts_S1x2048_S1x1x2048 := rfl

theorem prefix_slice (h1 : ∀ l : Fin 2048, x1 (ix3 0 l 0) = (B l : EReal)) (h2 : ∀ m : Fin 2048, x2 (ix3 0 0 m) = BitVec.ofNat 32 (I m))
    (hI : Fits B I) (o : ℕ) (ho : o ≤ 1792) (h : S1x2048.Slices ![0, o] S1x256) (m : Fin 2048) :
    prefixChunk (BitVec.ofNat 32 o) (extractStridedSlice S1x256 ![0, o] (logaRow x1 x2) h) (ix2 0 m)
      = chunkSum (fun s => if s ≤ m then (lgAt B I s : EReal) else 0) o := by
  refine prefixChunk_at o ho _ (lgAt B I) m (fun x => ?_)
  have := x.isLt
  refine Eq.trans ?_ (logaRow_at x1 x2 B I h1 h2 hI ⟨o + x, by omega⟩)
  pointwise

theorem outS_at (h1 : ∀ l : Fin 2048, x1 (ix3 0 l 0) = (B l : EReal)) (h2 : ∀ m : Fin 2048, x2 (ix3 0 0 m) = BitVec.ofNat 32 (I m))
    (hI : Fits B I) (m : Fin 2048) : outS x1 x2 (ix3 0 0 m) = (sumAt B I m : EReal) := by
  rw [outS, View.canon_unit_zero (S := S1x1x2048) zeros3 inb_S1x1x2048_S1x1x2048_0_0_0, prefix_eq]
  pointwise
  simp only [prefix_slice x1 x2 B I h1 h2 hI, Nat.reduceLeDiff]
  rw [chunks, sum_upto _ _ m.isLt, sumAt, coe_sum]

/-- The mask row holds one where a probability is at least one half. -/
theorem maskRow_at (h0 : ∀ l : Fin 2048, x0 (ix3 0 0 l) = (B l : EReal)) (l : Fin 2048) :
    maskRow x0 (ix2 0 l) = if 1 / 2 ≤ B l then (1 : EReal) else 0 := by
  pointwise [maskRow, k0_pay16]
  rw [sitofp_bit, h0, ofBits_half]
  simp only [EReal.coe_le_coe_iff]

theorem laneF_at (l : Fin 2048) : laneF (F := Ideal) (ix2 0 l) = (((l : ℕ) : ℝ) : EReal) := by
  have := l.isLt
  pointwise [laneF, k0_pay17, laneI]
  show (((BitVec.ofNat 32 (l : ℕ)).toInt : ℝ) : EReal) = _
  rw [toInt_ofNat_of_lt (w := 32) (by omega), Int.cast_natCast]

/-- A chunk of the plug-back positions. -/
theorem plug_piece (h0 : ∀ l : Fin 2048, x0 (ix3 0 0 l) = (B l : EReal)) (o : ℕ) (ho : o ≤ 1792) (y : S1x256x1.Idx) (n : ℕ)
    (hn : n = o + 1 * (y 1 : ℕ)) :
    shapeCast S1x256x1 (plugChunk (notAfter (BitVec.ofNat 32 o)) (maskRow x0)) shapeCasts_S256x1_S1x256x1 y = ((plugAt B n : ℝ) : EReal) := by
  subst hn
  idx_vars y
  pointwise
  exact plugChunk_at o ho _ B _ (maskRow_at x0 B h0)

/-- The plug-back positions. -/
theorem outPb_at (h0 : ∀ l : Fin 2048, x0 (ix3 0 0 l) = (B l : EReal)) (t : Fin 2048) :
    outPb x0 (ix3 0 t 0) = ((plugAt B t : ℝ) : EReal) := by
  refine View.canon_apply_of_pieces (Val := Elt Ideal) (e := .f32) (fun y : S1x2048x1.Idx => ((plugAt B (y 1 : ℕ) : ℝ) : EReal)) _ (fun p hp x => ?_) _ (cover_col _ _ _ _ _ _ _ _ _)
  simp only [List.mem_cons, List.not_mem_nil, or_false] at hp
  rcases hp with rfl | rfl | rfl | rfl | rfl | rfl | rfl | rfl
  · exact plug_piece x0 B h0 1792 (by decide) x _ rfl
  · exact plug_piece x0 B h0 1536 (by decide) x _ rfl
  · exact plug_piece x0 B h0 1280 (by decide) x _ rfl
  · exact plug_piece x0 B h0 1024 (by decide) x _ rfl
  · exact plug_piece x0 B h0 768 (by decide) x _ rfl
  · exact plug_piece x0 B h0 512 (by decide) x _ rfl
  · exact plug_piece x0 B h0 256 (by decide) x _ rfl
  · exact plug_piece x0 B h0 0 (by decide) x _ rfl

/-- A chunk of the log decays summed up to the plug-back positions. -/
theorem upTo_piece (h0 : ∀ l : Fin 2048, x0 (ix3 0 0 l) = (B l : EReal)) (h1 : ∀ l : Fin 2048, x1 (ix3 0 l 0) = (B l : EReal))
    (h2 : ∀ m : Fin 2048, x2 (ix3 0 0 m) = BitVec.ofNat 32 (I m)) (hI : Fits B I)
    (o : ℕ) (ho : o ≤ 1792) (y : S1x256x1.Idx) (n : ℕ) (hn : n = o + 1 * (y 1 : ℕ)) :
    upToChunk (logaRow x1 x2) laneF (plugChunk (notAfter (BitVec.ofNat 32 o)) (maskRow x0)) y = (sumAt B I (plugAt B n) : EReal) := by
  subst hn
  idx_vars y
  obtain rfl : y0 = 0 := Subsingleton.elim _ _
  obtain rfl : y2 = 0 := Subsingleton.elim _ _
  have hr := y1.isLt
  have e := plugChunk_at o ho _ B y1 (maskRow_at x0 B h0)
  have := plugAt_le B (o + y1)
  show _ = (sumAt B I (plugAt B (o + 1 * (y1 : ℕ))) : EReal)
  rw [one_mul]
  exact upToChunk_at _ _ _ B I _ (by omega) y1 (logaRow_at x1 x2 B I h1 h2 hI) laneF_at e

/-- The log decays summed up to the plug-back positions. -/
theorem outU_at (h0 : ∀ l : Fin 2048, x0 (ix3 0 0 l) = (B l : EReal)) (h1 : ∀ l : Fin 2048, x1 (ix3 0 l 0) = (B l : EReal))
    (h2 : ∀ m : Fin 2048, x2 (ix3 0 0 m) = BitVec.ofNat 32 (I m)) (hI : Fits B I) (t : Fin 2048) :
    outU x0 x1 x2 (ix3 0 t 0) = (sumAt B I (plugAt B t) : EReal) := by
  refine View.canon_apply_of_pieces (Val := Elt Ideal) (e := .f32) (fun y : S1x2048x1.Idx => (sumAt B I (plugAt B (y 1 : ℕ)) : EReal)) _ (fun p hp x => ?_) _
    (cover_col _ _ _ _ _ _ _ _ _)
  simp only [List.mem_cons, List.not_mem_nil, or_false] at hp
  rcases hp with rfl | rfl | rfl | rfl | rfl | rfl | rfl | rfl
  · exact upTo_piece x0 x1 x2 B I h0 h1 h2 hI 1792 (by decide) x _ rfl
  · exact upTo_piece x0 x1 x2 B I h0 h1 h2 hI 1536 (by decide) x _ rfl
  · exact upTo_piece x0 x1 x2 B I h0 h1 h2 hI 1280 (by decide) x _ rfl
  · exact upTo_piece x0 x1 x2 B I h0 h1 h2 hI 1024 (by decide) x _ rfl
  · exact upTo_piece x0 x1 x2 B I h0 h1 h2 hI 768 (by decide) x _ rfl
  · exact upTo_piece x0 x1 x2 B I h0 h1 h2 hI 512 (by decide) x _ rfl
  · exact upTo_piece x0 x1 x2 B I h0 h1 h2 hI 256 (by decide) x _ rfl
  · exact upTo_piece x0 x1 x2 B I h0 h1 h2 hI 0 (by decide) x _ rfl

end Rows

end Cert.KernelIdeal.Hand

end
-- ==== Proof.IdealValue2.lean ====
/-
  The second kernel's block at the extended reals: at one point of the grid the weighted sum of 512 concept tokens and the
  projection of 512 encoder channels.
-/
module

public import proofs.«01_k».proof.Proof.IdealStage2
public import proofs.«01_k».proof.Proof.IdealValue1

@[expose] public section

set_option maxRecDepth 16384

noncomputable section

namespace Cert.KernelIdeal.Hand

open Cert.KernelIdeal Cert.KernelIdeal.Gen Cert.Smooth
open Idealize.ShloMosaic Idealize.ShloMosaic.WordCmp

/-- The sum of `f` over the 512 numbers from `o` on. -/
def partSum (f : ℕ → EReal) (o : ℕ) : EReal := ∑ k : Fin 512, f (o + k)

/-- The first `n` terms and the 512 terms after them are the first `n + 512` terms. -/
theorem range_part (f : ℕ → EReal) (n : ℕ) : ∑ s ∈ Finset.range n, f s + partSum f n = ∑ s ∈ Finset.range (n + 512), f s := by
  rw [Finset.sum_range_add, partSum, Finset.sum_range (fun x => f (n + x))]

/-- A small natural, as a float, converts to its word. -/
theorem fptosi_nat (n : ℕ) (hn : n < 2048) : FloatOps.fptosi (F := Ideal) (φ := .f32) 32 ((n : ℝ) : EReal) = BitVec.ofNat 32 n := by
  show BitVec.ofInt 32 (Ideal.toIntClamped _ _ ((n : ℝ) : EReal)) = _
  rw [Ideal.toIntClamped_coe, if_pos (Nat.cast_nonneg n), Int.floor_natCast, min_eq_right (by norm_num; omega), max_eq_right (by norm_num)]
  exact BitVec.ofInt_natCast 32 n

/-- The weighted sum at one point, for a position whose plug-back position is `n`. -/
theorem weighted_at (i : grid1.Coords) (x0 x1 : Vec Ideal S1x1x512 .f32) (x2 x3 : Vec Ideal S1x1024x1 .f32) (x4 : Vec Ideal S1x512x2048 .f32)
    (B : ℕ → ℝ) (I : ℕ → ℕ) (C : ℕ → EReal) (n : ℕ) (hn : n < 2048) (r : Fin 1024) (d : Fin 2048)
    (h0 : ∀ k : Fin 512, x0 (ix3 0 0 k) = (qAt B I (512 * (i 2).val + k) : EReal))
    (h1 : ∀ k : Fin 512, x1 (ix3 0 0 k) = (sumAt B I (512 * (i 2).val + k) : EReal))
    (h2 : x2 (ix3 0 r 0) = (sumAt B I n : EReal)) (h3 : x3 (ix3 0 r 0) = ((n : ℝ) : EReal))
    (h4 : ∀ k : Fin 512, x4 (ix3 0 k d) = C (512 * (i 2).val + k)) :
    weighted i x0 x1 x2 x3 x4 (ix2 r d) = partSum (fun j => (weightAt B I n j : EReal) * C j) (512 * (i 2).val) := by
  pointwise [weighted, k1_pay4]
  refine Finset.sum_congr rfl fun k _ => ?_
  have hk := k.isLt
  have hi : (i 2).val < 4 := (i 2).isLt
  rw [h0, h1, h2, h3, h4, fptosi_nat n hn]
  have e : IntOp.addi (BitVec.ofNat 32 (k : ℕ)) (Scalar.muli (BitVec.ofNat 32 (i 2).val) 512#32) = BitVec.ofNat 32 (512 * (i 2).val + k) := by
    show BitVec.ofNat 32 (k : ℕ) + BitVec.ofNat 32 (i 2).val * BitVec.ofNat 32 512 = _
    rw [← BitVec.ofNat_mul, ← BitVec.ofNat_add]
    exact congrArg _ (by omega)
  have em : (Named.named κ "mask" 0xF149F2CA#32 : Ideal .f32) = (⊥ : EReal) := IdealRules.named_const.ideal_named_scalar _ _ _ _ rfl
  rw [e, em, word_le _ _ (by omega) (by omega), Scalar.select]
  refine congrArg (· * _) ?_
  show _ = (weightAt B I n (512 * (i 2).val + k) : EReal)
  rw [weightAt]
  by_cases h : 512 * (i 2).val + (k : ℕ) ≤ n
  · simp only [h, decide_true, if_true]
    rw [show (BitVec.ofBool true) = 1 from rfl, if_pos rfl, ← EReal.coe_sub, Ideal.exp_coe, ← EReal.coe_mul]
  · simp only [h, decide_false, if_false]
    rw [show (BitVec.ofBool false) = 0 from rfl, if_neg (by decide), Ideal.exp_bot, zero_mul, EReal.coe_zero]

/-- The addend at one point: the weighted sum and the projection. -/
theorem addend_at (i : grid1.Coords) (v : FVec Ideal S1024x2048 .f32) (x5 : Vec Ideal S1x1024x512 .f32) (x6 : Vec Ideal S2048x2048 .bf16)
    (E W : ℕ → EReal) (r : Fin 1024) (d : Fin 2048) (h5 : ∀ k : Fin 512, x5 (ix3 0 r k) = E (512 * (i 2).val + k))
    (h6 : ∀ k : Fin 2048, x6 (ix2 d k) = W k) :
    k1_pay1 v (k1_pay5 (View.ld x5 rEnc)) (k1_pay6 (View.ld x6 (rW i))) zeros (ix2 r d)
      = v (ix2 r d) + partSum (fun j => E j * W j) (512 * (i 2).val) := by
  pointwise [k1_pay1, k1_pay5, k1_pay6, zeros]
  refine congrArg _ (Finset.sum_congr rfl fun k _ => ?_)
  have hk := k.isLt
  have hi : (i 2).val < 4 := (i 2).isLt
  have e0 : k1_off1 i 0 = 0 := congrFun (k1_off1_eq i) 0
  have e1 : k1_off1 i 1 = 512 * (i 2).val := congrFun (k1_off1_eq i) 1
  rw [h5]
  refine Eq.trans ?_ (congrArg (E (512 * (i 2).val + k) * ·) (h6 ⟨512 * (i 2).val + k, by omega⟩))
  refine congrArg (fun q => _ * x6 q) ?_
  congr 1 <;> apply Fin.ext <;> simp only [e0, e1, Nat.zero_add]

theorem out_zeros : (![0, 0, 0] : Fin S1x1024x2048.rank → ℕ) = fun _ => 0 := zeros3

/-- The block a run's first point stores. -/
theorem firstOut_at (i : grid1.Coords) (x0 x1 : Vec Ideal S1x1x512 .f32) (x2 x3 : Vec Ideal S1x1024x1 .f32) (x4 : Vec Ideal S1x512x2048 .f32)
    (x5 : Vec Ideal S1x1024x512 .f32) (x6 : Vec Ideal S2048x2048 .bf16)
    (B : ℕ → ℝ) (I : ℕ → ℕ) (C E W : ℕ → EReal) (n : ℕ) (hn : n < 2048) (r : Fin 1024) (d : Fin 2048)
    (h0 : ∀ k : Fin 512, x0 (ix3 0 0 k) = (qAt B I (512 * (i 2).val + k) : EReal))
    (h1 : ∀ k : Fin 512, x1 (ix3 0 0 k) = (sumAt B I (512 * (i 2).val + k) : EReal))
    (h2 : x2 (ix3 0 r 0) = (sumAt B I n : EReal)) (h3 : x3 (ix3 0 r 0) = ((n : ℝ) : EReal))
    (h4 : ∀ k : Fin 512, x4 (ix3 0 k d) = C (512 * (i 2).val + k)) (h5 : ∀ k : Fin 512, x5 (ix3 0 r k) = E (512 * (i 2).val + k))
    (h6 : ∀ k : Fin 2048, x6 (ix2 d k) = W k) :
    firstOut i x0 x1 x2 x3 x4 x5 x6 (ix3 0 r d)
      = partSum (fun j => (weightAt B I n j : EReal) * C j) (512 * (i 2).val) + partSum (fun j => E j * W j) (512 * (i 2).val) := by
  rw [firstOut, View.canon_unit_zero (S := S1x1024x2048) out_zeros inb_S1x1024x2048_S1x1024x2048_0_0_0, k1_pay2]
  pointwise
  rw [addend_at i _ x5 x6 E W r d h5 h6, weighted_at i x0 x1 x2 x3 x4 B I C n hn r d h0 h1 h2 h3 h4]

/-- The block a later point stores over `y`. -/
theorem nextOut_at (i : grid1.Coords) (x0 x1 : Vec Ideal S1x1x512 .f32) (x2 x3 : Vec Ideal S1x1024x1 .f32) (x4 : Vec Ideal S1x512x2048 .f32)
    (x5 : Vec Ideal S1x1024x512 .f32) (x6 : Vec Ideal S2048x2048 .bf16) (y : Vec Ideal S1x1024x2048 .f32)
    (B : ℕ → ℝ) (I : ℕ → ℕ) (C E W : ℕ → EReal) (n : ℕ) (hn : n < 2048) (r : Fin 1024) (d : Fin 2048)
    (h0 : ∀ k : Fin 512, x0 (ix3 0 0 k) = (qAt B I (512 * (i 2).val + k) : EReal))
    (h1 : ∀ k : Fin 512, x1 (ix3 0 0 k) = (sumAt B I (512 * (i 2).val + k) : EReal))
    (h2 : x2 (ix3 0 r 0) = (sumAt B I n : EReal)) (h3 : x3 (ix3 0 r 0) = ((n : ℝ) : EReal))
    (h4 : ∀ k : Fin 512, x4 (ix3 0 k d) = C (512 * (i 2).val + k)) (h5 : ∀ k : Fin 512, x5 (ix3 0 r k) = E (512 * (i 2).val + k))
    (h6 : ∀ k : Fin 2048, x6 (ix2 d k) = W k) :
    nextOut i x0 x1 x2 x3 x4 x5 x6 y (ix3 0 r d)
      = y (ix3 0 r d) + (partSum (fun j => (weightAt B I n j : EReal) * C j) (512 * (i 2).val)
        + partSum (fun j => E j * W j) (512 * (i 2).val)) := by
  rw [nextOut, View.canon_unit_zero (S := S1x1024x2048) out_zeros inb_S1x1024x2048_S1x1024x2048_0_0_0, k1_pay3]
  pointwise
  rw [addend_at i _ x5 x6 E W r d h5 h6, weighted_at i x0 x1 x2 x3 x4 B I C n hn r d h0 h1 h2 h3 h4]

end Cert.KernelIdeal.Hand

end
-- ==== Proof.IdealValue3.lean ====
/-
  The idealized program's arrays at the extended reals: what the first region leaves in its four
  arrays, what the second region finds, and the result.
-/
module

public import proofs.«01_k».proof.Proof.IdealRun
public import proofs.«01_k».proof.Proof.IdealValue2
public import Idealize.ShloMosaic.Lib.Pipeline.ValueKit

@[expose] public section

set_option maxRecDepth 16384

noncomputable section

namespace Cert.KernelIdeal.Hand

open Cert.KernelIdeal Cert.KernelIdeal.Gen Cert.Smooth
open Idealize.ShloMosaic Idealize.ShloMosaic.TcCoe Idealize.ShloMosaic.WordCmp
open Idealize.ShloMosaic.Pipeline (Dat)

variable (m : (ℓ : Loc nD τ sig) → Buf (Elt Ideal) ℓ)

/-- What the arguments of core `c` hold: the boundary probabilities `B b` of batch `b` are real, and the boundary indices
    `I b` fit them; `T`, `E` and `W` name the concept tokens, the encoder's output and the weights. -/
structure Holds (c : Dev nD) (B : ℕ → ℕ → ℝ) (I : ℕ → ℕ → ℕ) (T E : ℕ → ℕ → ℕ → EReal) (W : ℕ → ℕ → EReal) : Prop where
  prob : ∀ (b : Fin 8) (l : Fin 2048), (m ((c : Thread nD τ).loc main_arg2) : Vec Ideal S8x2048 .f32) (ix2 b l) = (B b l : EReal)
  index : ∀ (b : Fin 8) (l : Fin 2048), (m ((c : Thread nD τ).loc main_arg3) : Vec Ideal S8x2048 .i32) (ix2 b l) = BitVec.ofNat 32 (I b l)
  token : ∀ (b : Fin 8) (j d : Fin 2048), (m ((c : Thread nD τ).loc main_arg0) : Vec Ideal S8x2048x2048 .f32) (ix3 b j d) = T b j d
  encoded : ∀ (b : Fin 8) (j d : Fin 2048), (m ((c : Thread nD τ).loc main_arg1) : Vec Ideal S8x2048x2048 .f32) (ix3 b j d) = E b j d
  weight : ∀ (d k : Fin 2048), (m ((c : Thread nD τ).loc main_arg5) : Vec Ideal S2048x2048 .f32) (ix2 d k) = W d k
  fits : ∀ b : ℕ, b < 8 → Fits (B b) (I b)

variable {m} {c : Dev nD} {B : ℕ → ℕ → ℝ} {I : ℕ → ℕ → ℕ} {T E : ℕ → ℕ → ℕ → EReal} {W : ℕ → ℕ → EReal}

/-- Every block index of the first region: the batch. -/
theorem at0 : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- The three arrays the first region reads. -/
theorem W1_v0 (h : Holds m c B I T E W) (y : S8x1x2048.Idx) : W1 m c (Proc.devRef .tc main_v0) y = (B (y 0).val (y 2).val : EReal) := by
  unfold W1
  after_results
  refine Eq.trans ?_ (h.prob (y 0) (y 2))
  idx_vars y
  pointwise
theorem W1_v1 (h : Holds m c B I T E W) (y : S8x2048x1.Idx) : W1 m c (Proc.devRef .tc main_v1) y = (B (y 0).val (y 1).val : EReal) := by
  unfold W1
  after_results
  refine Eq.trans ?_ (h.prob (y 0) (y 1))
  idx_vars y
  pointwise
theorem W1_v2 (h : Holds m c B I T E W) (y : S8x1x2048.Idx) : W1 m c (Proc.devRef .tc main_v2) y = BitVec.ofNat 32 (I (y 0).val (y 2).val) := by
  unfold W1
  after_results
  refine Eq.trans ?_ (h.index (y 0) (y 2))
  idx_vars y
  pointwise

/-- The blocks the first region reads at point `t`: the rows of batch `t`. -/
theorem blk0_0 (h : Holds m c B I T E W) (t : Fin cfg0.N) (l : Fin 2048) : blk0 m c 0 t (ix3 0 0 l) = (B t.val l.val : EReal) := by
  blk_simp [blk0, at0 t, W1_v0 h]
  rfl
theorem blk0_1 (h : Holds m c B I T E W) (t : Fin cfg0.N) (l : Fin 2048) : blk0 m c 1 t (ix3 0 l 0) = (B t.val l.val : EReal) := by
  blk_simp [blk0, at0 t, W1_v1 h]
  rfl
theorem blk0_2 (h : Holds m c B I T E W) (t : Fin cfg0.N) (l : Fin 2048) : blk0 m c 2 t (ix3 0 0 l) = BitVec.ofNat 32 (I t.val l.val) := by
  blk_simp [blk0, at0 t, W1_v2 h]
  rfl

/-- A point's number is a batch's. -/
theorem point_lt (t : Fin cfg0.N) : t.val < 8 := t.isLt.trans_eq N_0

/-- The four arrays the first region leaves. -/
theorem arr3 (h : Holds m c B I T E W) : (dat0 m c).arrAt 3 cfg0.N = fun y => (qAt (B (y 0).val) (I (y 0).val) (y 2).val : EReal) := by
  refine (dat0 m c).arrAt_eq_of_covers 3 _ (by decide +kernel) fun t hf y => ?_
  blk_simp [at0 t]
  rw [after0_3]
  idx_vars y
  obtain rfl : y0 = 0 := Subsingleton.elim _ _
  obtain rfl : y1 = 0 := Subsingleton.elim _ _
  exact outP_at _ _ (B t.val) (I t.val) (blk0_1 h t) (blk0_2 h t) (h.fits t.val (point_lt t)) y2
theorem arr4 (h : Holds m c B I T E W) : (dat0 m c).arrAt 4 cfg0.N = fun y => (sumAt (B (y 0).val) (I (y 0).val) (y 2).val : EReal) := by
  refine (dat0 m c).arrAt_eq_of_covers 4 _ (by decide +kernel) fun t hf y => ?_
  blk_simp [at0 t]
  rw [after0_4]
  idx_vars y
  obtain rfl : y0 = 0 := Subsingleton.elim _ _
  obtain rfl : y1 = 0 := Subsingleton.elim _ _
  exact outS_at _ _ (B t.val) (I t.val) (blk0_1 h t) (blk0_2 h t) (h.fits t.val (point_lt t)) y2
theorem arr5 (h : Holds m c B I T E W) :
    (dat0 m c).arrAt 5 cfg0.N = fun y => (sumAt (B (y 0).val) (I (y 0).val) (plugAt (B (y 0).val) (y 1).val) : EReal) := by
  refine (dat0 m c).arrAt_eq_of_covers 5 _ (by decide +kernel) fun t hf y => ?_
  blk_simp [at0 t]
  rw [after0_5]
  idx_vars y
  obtain rfl : y0 = 0 := Subsingleton.elim _ _
  obtain rfl : y2 = 0 := Subsingleton.elim _ _
  exact outU_at _ _ _ (B t.val) (I t.val) (blk0_0 h t) (blk0_1 h t) (blk0_2 h t) (h.fits t.val (point_lt t)) y1
theorem arr6 (h : Holds m c B I T E W) : (dat0 m c).arrAt 6 cfg0.N = fun y => ((plugAt (B (y 0).val) (y 1).val : ℝ) : EReal) := by
  refine (dat0 m c).arrAt_eq_of_covers 6 _ (by decide +kernel) fun t hf y => ?_
  blk_simp [at0 t]
  rw [after0_6]
  idx_vars y
  obtain rfl : y0 = 0 := Subsingleton.elim _ _
  obtain rfl : y2 = 0 := Subsingleton.elim _ _
  exact outPb_at _ (B t.val) (blk0_0 h t) y1

/-! ## What the second region finds -/

theorem W3_v3_0 (h : Holds m c B I T E W) :
    W3 m c (Proc.devRef .tc main_v3_0) = fun y : S8x1x2048.Idx => (qAt (B (y 0).val) (I (y 0).val) (y 2).val : EReal) :=
  (StableHlo.after_of_writes_sub hostOps1 _ hostOps1_writes (by decide)).trans
    ((Pipeline.afterRegion_arr (dat0 m c) (W1 m c) launch0.win.arr_inj 3).trans (arr3 h))
theorem W3_v3_1 (h : Holds m c B I T E W) :
    W3 m c (Proc.devRef .tc main_v3_1) = fun y : S8x1x2048.Idx => (sumAt (B (y 0).val) (I (y 0).val) (y 2).val : EReal) :=
  (StableHlo.after_of_writes_sub hostOps1 _ hostOps1_writes (by decide)).trans
    ((Pipeline.afterRegion_arr (dat0 m c) (W1 m c) launch0.win.arr_inj 4).trans (arr4 h))
theorem W3_v3_2 (h : Holds m c B I T E W) :
    W3 m c (Proc.devRef .tc main_v3_2)
      = fun y : S8x2048x1.Idx => (sumAt (B (y 0).val) (I (y 0).val) (plugAt (B (y 0).val) (y 1).val) : EReal) :=
  (StableHlo.after_of_writes_sub hostOps1 _ hostOps1_writes (by decide)).trans
    ((Pipeline.afterRegion_arr (dat0 m c) (W1 m c) launch0.win.arr_inj 5).trans (arr5 h))
theorem W3_v3_3 (h : Holds m c B I T E W) :
    W3 m c (Proc.devRef .tc main_v3_3) = fun y : S8x2048x1.Idx => ((plugAt (B (y 0).val) (y 1).val : ℝ) : EReal) :=
  (StableHlo.after_of_writes_sub hostOps1 _ hostOps1_writes (by decide)).trans
    ((Pipeline.afterRegion_arr (dat0 m c) (W1 m c) launch0.win.arr_inj 6).trans (arr6 h))

/-- A reference neither the host operations nor the first region write is as launched. -/
theorem W3_keeps (r : Ref sig .tc) (h : r ∉ ([main_v0, main_v1, main_v2, main_v3_0, main_v3_1, main_v3_2, main_v3_3, main_v4] : List (Ref sig .tc))) :
    W3 m c (Proc.devRef .tc r) = m ((c : Thread nD τ).loc r) := by
  have h0 : ∀ w, Pipeline.arrRef spec0 w = r → (cfg0.win w).isOut = false := fun w e => by
    subst e; revert h; revert w; decide
  refine (StableHlo.after_of_writes_sub hostOps1 _ hostOps1_writes (fun e => h (by
    revert e; simp only [hostOps1_W, List.mem_cons, List.mem_nil_iff, or_false]; tauto))).trans ?_
  refine (Pipeline.afterRegion_keeps (dat0 m c) (W1 m c) launch0.win.arr_inj (dat0_A m c) r h0).trans ?_
  exact StableHlo.after_of_writes_sub hostOps0 _ hostOps0_writes (fun e => h (by
    revert e; simp only [hostOps0_W, List.mem_cons, List.mem_nil_iff, or_false]; tauto))

theorem W3_arg0 (h : Holds m c B I T E W) (y : S8x2048x2048.Idx) :
    W3 m c (Proc.devRef .tc main_arg0) y = T (y 0).val (y 1).val (y 2).val := by
  rw [W3_keeps main_arg0 (by decide)]
  refine Eq.trans ?_ (h.token (y 0) (y 1) (y 2))
  idx_vars y
theorem W3_arg1 (h : Holds m c B I T E W) (y : S8x2048x2048.Idx) :
    W3 m c (Proc.devRef .tc main_arg1) y = E (y 0).val (y 1).val (y 2).val := by
  rw [W3_keeps main_arg1 (by decide)]
  refine Eq.trans ?_ (h.encoded (y 0) (y 1) (y 2))
  idx_vars y
theorem W3_v4 (h : Holds m c B I T E W) (y : S2048x2048.Idx) : W3 m c (Proc.devRef .tc main_v4) y = W (y 0).val (y 1).val := by
  have e : W2 m c (Proc.devRef .tc main_arg5) = m ((c : Thread nD τ).loc main_arg5) :=
    (StableHlo.after_of_writes_sub hostOps1 _ hostOps1_writes (by decide)).symm.trans (W3_keeps main_arg5 (by decide))
  unfold W3
  after_results
  rw [e]
  refine Eq.trans ?_ (h.weight (y 0) (y 1))
  idx_vars y
  rfl

/-- Every block index of the second region: the batch is `t / 8`, the tile `t / 4 % 2`, the chunk `t % 4`. -/
theorem at1 : ∀ t : Fin cfg1.N, win1_0.index t = ![t.val / 8, 0, t.val % 4] ∧ win1_1.index t = ![t.val / 8, 0, t.val % 4]
    ∧ win1_2.index t = ![t.val / 8, t.val / 4 % 2, 0] ∧ win1_3.index t = ![t.val / 8, t.val / 4 % 2, 0]
    ∧ win1_4.index t = ![t.val / 8, t.val % 4, 0] ∧ win1_5.index t = ![t.val / 8, t.val / 4 % 2, t.val % 4]
    ∧ win1_6.index t = ![0, 0] ∧ win1_7.index t = ![t.val / 8, t.val / 4 % 2, 0] :=
  (by decide +kernel : ∀ t : Fin grid1.N, _)
theorem chunk_at : ∀ t : Fin cfg1.N, (grid1.coords t 2).val = t.val % 4 := (by decide +kernel : ∀ t : Fin grid1.N, _)

/-- The blocks the second region reads at point `t`. -/
theorem blk1_0 (h : Holds m c B I T E W) (t : Fin cfg1.N) (k : Fin 512) :
    blk1 m c 0 t (ix3 0 0 k) = (qAt (B (t.val / 8)) (I (t.val / 8)) (512 * (t.val % 4) + k.val) : EReal) := by
  blk_simp [blk1, at1 t, W3_v3_0 h]
  rw [Nat.mul_comm 512]
  rfl
theorem blk1_1 (h : Holds m c B I T E W) (t : Fin cfg1.N) (k : Fin 512) :
    blk1 m c 1 t (ix3 0 0 k) = (sumAt (B (t.val / 8)) (I (t.val / 8)) (512 * (t.val % 4) + k.val) : EReal) := by
  blk_simp [blk1, at1 t, W3_v3_1 h]
  rw [Nat.mul_comm 512]
  rfl
theorem blk1_2 (h : Holds m c B I T E W) (t : Fin cfg1.N) (r : Fin 1024) :
    blk1 m c 2 t (ix3 0 r 0) = (sumAt (B (t.val / 8)) (I (t.val / 8)) (plugAt (B (t.val / 8)) (1024 * (t.val / 4 % 2) + r.val)) : EReal) := by
  blk_simp [blk1, at1 t, W3_v3_2 h]
  rw [Nat.mul_comm 1024]
  rfl
theorem blk1_3 (h : Holds m c B I T E W) (t : Fin cfg1.N) (r : Fin 1024) :
    blk1 m c 3 t (ix3 0 r 0) = ((plugAt (B (t.val / 8)) (1024 * (t.val / 4 % 2) + r.val) : ℝ) : EReal) := by
  blk_simp [blk1, at1 t, W3_v3_3 h]
  rw [Nat.mul_comm 1024]
  rfl
theorem blk1_4 (h : Holds m c B I T E W) (t : Fin cfg1.N) (k : Fin 512) (d : Fin 2048) :
    blk1 m c 4 t (ix3 0 k d) = T (t.val / 8) (512 * (t.val % 4) + k.val) d.val := by
  blk_simp [blk1, at1 t, W3_arg0 h]
  rw [Nat.mul_comm 512]
  rfl
theorem blk1_5 (h : Holds m c B I T E W) (t : Fin cfg1.N) (r : Fin 1024) (k : Fin 512) :
    blk1 m c 5 t (ix3 0 r k) = E (t.val / 8) (1024 * (t.val / 4 % 2) + r.val) (512 * (t.val % 4) + k.val) := by
  blk_simp [blk1, at1 t, W3_arg1 h]
  rw [Nat.mul_comm 512, Nat.mul_comm 1024]
  rfl
theorem blk1_6 (h : Holds m c B I T E W) (t : Fin cfg1.N) (d k : Fin 2048) : blk1 m c 6 t (ix2 d k) = W d.val k.val := by
  blk_simp [blk1, at1 t, W3_v4 h]

/-! ## The second region's result -/

/-- The first `n` terms of the two sums that make an element of the result: batch `b`, position `p`, channel `d`. -/
def upTo (B : ℕ → ℕ → ℝ) (I : ℕ → ℕ → ℕ) (T E : ℕ → ℕ → ℕ → EReal) (W : ℕ → ℕ → EReal) (b p d n : ℕ) : EReal :=
  ∑ j ∈ Finset.range n, (weightAt (B b) (I b) (plugAt (B b) p) j : EReal) * T b j d + ∑ j ∈ Finset.range n, E b p j * W d j

/-- The first 512 terms are the first chunk's, -/
theorem upTo_first (b p d : ℕ) : upTo B I T E W b p d 512
    = partSum (fun j => (weightAt (B b) (I b) (plugAt (B b) p) j : EReal) * T b j d) (512 * 0) + partSum (fun j => E b p j * W d j) (512 * 0) := by
  unfold upTo
  rw [show (512 : ℕ) = 0 + 512 from rfl, ← range_part, ← range_part, Finset.sum_range_zero, zero_add, zero_add, Finset.sum_range_zero, zero_add]
/-- and another chunk adds its own. -/
theorem upTo_next (b p d n : ℕ) : upTo B I T E W b p d (n + 512) = upTo B I T E W b p d n
    + (partSum (fun j => (weightAt (B b) (I b) (plugAt (B b) p) j : EReal) * T b j d) n + partSum (fun j => E b p j * W d j) n) := by
  unfold upTo
  rw [← range_part, ← range_part, add_add_add_comm]

/-- What the output block holds after the point of chunk `k`: the terms of the chunks up to it. -/
theorem acc1_at (h : Holds m c B I T E W) (r : Fin 1024) (d : Fin 2048) (k : ℕ) : ∀ t : Fin cfg1.N, t.val % 4 = k →
    acc1 m c t.val t.isLt (ix3 0 r d) = upTo B I T E W (t.val / 8) (1024 * (t.val / 4 % 2) + r.val) d.val (512 * (k + 1)) := by
  have hp : ∀ t : Fin cfg1.N, plugAt (B (t.val / 8)) (1024 * (t.val / 4 % 2) + r.val) < 2048 := fun t =>
    (plugAt_le _ _).trans_lt (by have := r.isLt; omega)
  induction k with
  | zero =>
    intro t ht
    rw [acc1_first m c t ht, first1]
    refine (firstOut_at (grid1.coords t) _ _ _ _ _ _ _ (B (t.val / 8)) (I (t.val / 8)) (fun j => T (t.val / 8) j d.val)
      (fun j => E (t.val / 8) (1024 * (t.val / 4 % 2) + r.val) j) (fun j => W d.val j) _ (hp t) r d ?_ ?_ (blk1_2 h t r) (blk1_3 h t r) ?_ ?_ (blk1_6 h t d)).trans ?_
    all_goals rw [chunk_at t]
    · exact blk1_0 h t
    · exact blk1_1 h t
    · exact fun k => blk1_4 h t k d
    · exact blk1_5 h t r
    · rw [ht]; exact (upTo_first _ _ _).symm
  | succ k ih =>
    intro t ht
    have hlt : t.val - 1 < cfg1.N := Nat.lt_of_le_of_lt (Nat.sub_le _ _) t.isLt
    have hprev := ih ⟨t.val - 1, hlt⟩ (by show (t.val - 1) % 4 = k; omega)
    dsimp only at hprev
    rw [show (t.val - 1) / 8 = t.val / 8 by omega, show (t.val - 1) / 4 = t.val / 4 by omega] at hprev
    rw [acc1_next m c t (by omega), next1]
    refine (nextOut_at (grid1.coords t) _ _ _ _ _ _ _ _ (B (t.val / 8)) (I (t.val / 8)) (fun j => T (t.val / 8) j d.val)
      (fun j => E (t.val / 8) (1024 * (t.val / 4 % 2) + r.val) j) (fun j => W d.val j) _ (hp t) r d ?_ ?_ (blk1_2 h t r) (blk1_3 h t r) ?_ ?_ (blk1_6 h t d)).trans ?_
    all_goals rw [chunk_at t]
    · exact blk1_0 h t
    · exact blk1_1 h t
    · exact fun k => blk1_4 h t k d
    · exact blk1_5 h t r
    · rw [hprev, ht, show 512 * (k + 1 + 1) = 512 * (k + 1) + 512 from rfl]
      exact (upTo_next _ _ _ _).symm

/-- The result of the idealized program: the smoothed representation at the plug-back position plus the projection. -/
theorem result_at (h : Holds m c B I T E W) :
    W4 m c (Proc.devRef .tc main_v5) = fun y : S8x2048x2048.Idx =>
      hAt (B (y 0).val) (I (y 0).val) (fun j => T (y 0).val j (y 2).val) (plugAt (B (y 0).val) (y 1).val)
        + ∑ j ∈ Finset.range 2048, E (y 0).val (y 1).val j * W (y 2).val j := by
  refine (Pipeline.afterRegion_arr (dat1 m c) (W3 m c) launch1.win.arr_inj 7).trans ?_
  refine (dat1 m c).arrAt_eq_of_covers 7 _ (by decide +kernel) fun t hf y => ?_
  have ht : t.val % 4 = 3 := (flush1_7 t).mp hf
  blk_simp [at1 t]
  rw [after1_7]
  idx_vars y
  obtain rfl : y0 = 0 := Subsingleton.elim _ _
  have hp : plugAt (B (t.val / 8)) (1024 * (t.val / 4 % 2) + y1.val) < 2048 := (plugAt_le _ _).trans_lt (by have := y1.isLt; omega)
  refine (acc1_at h y1 y2 3 t ht).trans ?_
  rw [Nat.mul_comm (t.val / 4 % 2) 1024, hAt_eq_sum _ _ _ _ hp]
  rfl

end Cert.KernelIdeal.Hand

end
-- ==== Proof.RefValue1.lean ====
/-
  The reference's value at the extended reals, before its loop: the probability gathered at the plug-back index, the decay
  and the input of every position.
-/
module

public import proofs.«01_k».proof.Proof.RefFrame
public import proofs.«01_k».proof.Proof.Smooth
public import Idealize.ShloMosaic.Lib.Pointwise
public import Idealize.ShloMosaic.Lib.WordCmp
public import Idealize.ShloMosaic.Lib.ReduceAll

@[expose] public section

set_option maxRecDepth 16384

noncomputable section

namespace Cert.ReferenceIdeal.Hand

open Cert.ReferenceIdeal Cert.ReferenceIdeal.Gen Cert.ReferenceIdeal.Value Cert.Smooth
open Idealize.ShloMosaic Idealize.ShloMosaic.TcCoe Idealize.ShloMosaic.WordCmp Idealize.ShloMosaic.StableHlo

/-! ## The first gather -/

/-- The start indices of the first gather: a negative index counted from the end. -/
def starts1 (i : Vec Ideal S8x2048 .i32) : Vec Ideal S8x2048x1 .i32 :=
  shapeCast S8x2048x1 (select (cmpi .slt i (broadcastInDim S8x2048 ![] bcast_S_S8x2048 (constantI S_ 32 0#32)))
    (addi i (broadcastInDim S8x2048 ![] bcast_S_S8x2048 (constantI S_ 32 2048#32))) i) shapeCasts_S8x2048_S8x2048x1

/-- Which of them are in range. -/
def inside1 (v : Vec Ideal S8x2048x1 .i32) : Vec Ideal S8x2048x1 .i1 :=
  andi (cmpi .sge v (broadcastInDim S8x2048x1 ![] bcast_S_S8x2048x1 (constantI S_ 32 0#32)))
    (cmpi .sle v (broadcastInDim S8x2048x1 ![0, 1, 2] bcast_S1x1x1_S8x2048x1_0_1_2
      (broadcastInDim S1x1x1 ![2] bcast_S1_S1x1x1_2 (constantI S1 32 2047#32))))

/-- The first gather, filled where it is out of range. -/
def take1 (x : Vec Ideal S8x2048 .f32) (i : Vec Ideal S8x2048 .i32) : Vec Ideal S8x2048 .f32 :=
  select (Host.reduce IntOp.andi (inside1 (starts1 i)) (constantI S_ 1 1#1) reducesTo_S8x2048x1_S8x2048_d2 h_S_)
    (Host.gather gather_S8x2048_S8x2048x1_S8x2048_n_1_0_0_1_2_11 x (starts1 i))
    (broadcastInDim S8x2048 ![] bcast_S_S8x2048 (constant (F := Ideal) S_ .f32 0x7FC00000#32))

set_option maxRecDepth 100000 in
theorem take1_eq (V : Valuation τ sig (Elt Ideal)) :
    after hostOps0 V (Proc.devRef .tc main_v0) = take1 (V (Proc.devRef .tc main_arg2)) (V (Proc.devRef .tc main_arg3)) := by
  after_results
  rfl

theorem starts1_at (i : Vec Ideal S8x2048 .i32) (b : Fin 8) (l : Fin 2048) (n : ℕ) (hn : n < 2 ^ 31) (h : i (ix2 b l) = BitVec.ofNat 32 n) :
    starts1 i (ix3 b l 0) = BitVec.ofNat 32 n := by
  pointwise [starts1]
  rw [h, show IntOp.cmpi CmpIPredicate.slt (BitVec.ofNat 32 n) 0#32 = 0#1 by
    rw [cmpi_slt_ofNat (by omega) (by omega), ofBool_eq_zero_iff]; simp]
  rfl

/-- The range check of one element, where the index is not negative. -/
theorem inside1_at (i : Vec Ideal S8x2048 .i32) (b : Fin 8) (l : Fin 2048) (n : ℕ) (hn : n < 2 ^ 31) (h : i (ix2 b l) = BitVec.ofNat 32 n) :
    inside1 (starts1 i) (ix3 b l 0) = BitVec.ofBool (decide (n < 2048)) := by
  pointwise [inside1]
  rw [starts1_at i b l n hn h, cmpi_sge_ofNat (by omega) (by omega), cmpi_sle_ofNat (by omega) (by omega), andi_ofBool]
  refine congrArg BitVec.ofBool ?_
  rw [Bool.eq_iff_iff]
  simp
  omega

/-- A conjunction over an axis of one element is that element. -/
theorem all1_at (x : Vec Ideal S8x2048x1 .i1) (b : Fin 8) (l : Fin 2048) :
    Host.reduce IntOp.andi x (constantI S_ 1 1#1) reducesTo_S8x2048x1_S8x2048_d2 h_S_ (ix2 b l) = x (ix3 b l 0) := by
  have hd : reducesTo_S8x2048x1_S8x2048_d2.drop (ix3 b l 0) = ix2 b l := by
    funext a
    match a with
    | ⟨0, _⟩ => rfl
    | ⟨1, _⟩ => rfl
  rcases BitVec.eq_zero_or_eq_one (x (ix3 b l 0)) with e | e
  · rw [e]
    refine (BitVec.eq_zero_or_eq_one _).resolve_right fun e1 => ?_
    rw [Host.reduce_andi_eq_one _ _ _ _ _ e1 _ hd] at e
    exact absurd e (by decide)
  · rw [e, Host.reduce_eq_foldl]
    refine IntOp.foldl_andi_one x _ _ rfl fun n hn => ?_
    have hj : reducesTo_S8x2048x1_S8x2048_d2.drop n = ix2 b l := of_decide_eq_true (List.mem_filter.1 hn).2
    idx_vars n
    obtain rfl : n2 = 0 := Subsingleton.elim _ _
    obtain rfl : n0 = b := congrFun hj 0
    obtain rfl : n1 = l := congrFun hj 1
    exact e

theorem operand1 (v : Vec Ideal S8x2048x1 .i32) (b : Fin 8) (l : Fin 2048) (n : ℕ) (hn : n < 2048) (h : v (ix3 b l 0) = BitVec.ofNat 32 n) :
    gather_S8x2048_S8x2048x1_S8x2048_n_1_0_0_1_2_11.operandIdx (ix2 b l) v = ix2 b ⟨n, hn⟩ := by
  have hs : gather_S8x2048_S8x2048x1_S8x2048_n_1_0_0_1_2_11.siIdx (ix2 b l) ⟨0, by decide⟩ = ix3 b l 0 := by
    funext a
    match a with
    | ⟨0, _⟩ => rfl
    | ⟨1, _⟩ => rfl
    | ⟨2, _⟩ => rfl
  funext a
  apply Fin.ext
  match a with
  | ⟨0, _⟩ => show 0 + b.val + 0 = b.val; omega
  | ⟨1, _⟩ =>
    show min (v (gather_S8x2048_S8x2048x1_S8x2048_n_1_0_0_1_2_11.siIdx (ix2 b l) ⟨0, _⟩)).toInt.toNat (2048 - 1) + 0 + 0 = n
    rw [hs, h, toInt_ofNat_of_lt (by omega)]
    omega

/-- Where the index is not negative, the first gather reads the entry at the index, or the fill if the index is too large. -/
theorem take1_at (x : Vec Ideal S8x2048 .f32) (i : Vec Ideal S8x2048 .i32) (b : Fin 8) (l : Fin 2048) (n : ℕ) (hn : n < 2 ^ 31)
    (h : i (ix2 b l) = BitVec.ofNat 32 n) :
    take1 x i (ix2 b l) = if e : n < 2048 then x (ix2 b ⟨n, e⟩) else (⊥ : EReal) := by
  rw [take1, select_at, all1_at, inside1_at i b l n hn h]
  by_cases e : n < 2048
  · rw [dif_pos e, decide_eq_true e, show BitVec.ofBool true = 1#1 from rfl, select_one]
    exact congrArg x (operand1 (starts1 i) b l n e (starts1_at i b l n hn h))
  · rw [dif_neg e, decide_eq_false e, show BitVec.ofBool false = 0#1 from rfl, select_zero]
    exact ofBits_nan

/-! ## The loop's entry -/

/-- What the arguments hold: the boundary probabilities `B b` of batch `b` are real, the boundary indices `I b`
    fit them, the indices after the first are not negative and the positions after the first are concepts; `T`, `E` and `W` name the concept tokens, the encoder's output and the weights. -/
structure Holds (V : Valuation τ sig (Elt Ideal)) (B : ℕ → ℕ → ℝ) (I : ℕ → ℕ → ℕ) (T E : ℕ → ℕ → ℕ → EReal) (W : ℕ → ℕ → EReal) : Prop where
  prob : ∀ (b : Fin 8) (l : Fin 2048), (V (Proc.devRef .tc main_arg2) : Vec Ideal S8x2048 .f32) (ix2 b l) = (B b l : EReal)
  index : ∀ (b : Fin 8) (l : Fin 2048), (V (Proc.devRef .tc main_arg3) : Vec Ideal S8x2048 .i32) (ix2 b l) = BitVec.ofNat 32 (I b l)
  small : ∀ (b : Fin 8) (l : Fin 2048), 0 < l.val → I b l < 2 ^ 31
  mask : ∀ (b : Fin 8) (l : Fin 2048), 0 < l.val → (V (Proc.devRef .tc main_arg4) : Vec Ideal S8x2048 .i1) (ix2 b l) = 1#1
  token : ∀ (b : Fin 8) (j d : Fin 2048), (V (Proc.devRef .tc main_arg0) : Vec Ideal S8x2048x2048 .f32) (ix3 b j d) = T b j d
  encoded : ∀ (b : Fin 8) (j d : Fin 2048), (V (Proc.devRef .tc main_arg1) : Vec Ideal S8x2048x2048 .f32) (ix3 b j d) = E b j d
  weight : ∀ (d k : Fin 2048), (V (Proc.devRef .tc main_arg5) : Vec Ideal S2048x2048 .f32) (ix2 d k) = W d k
  fits : ∀ b : ℕ, b < 8 → Fits (B b) (I b)

variable {V : Valuation τ sig (Elt Ideal)} {B : ℕ → ℕ → ℝ} {I : ℕ → ℕ → ℕ} {T E : ℕ → ℕ → ℕ → EReal} {W : ℕ → ℕ → EReal}

/-- The gathered probabilities floored, after the first: the fill is below the floor, and so is zero. -/
theorem gathered_at (h : Holds V B I T E W) (b : Fin 8) (l : Fin 2048) (hl : 0 < l.val) :
    max (α := EReal) (after hostOps0_2 (after hostOps0_1 (after hostOps0 V)) (Proc.devRef .tc main_v2) (ix2 b l)) (tenth : EReal) = (pAt (B b) (I b) l : EReal) := by
  have e : ∀ Y : Valuation τ sig (Elt Ideal), after hostOps0_2 Y (Proc.devRef .tc main_v2)
      = select (Y (Proc.devRef .tc main_arg4)) (Y (Proc.devRef .tc main_v0)) (Y (Proc.devRef .tc main_v1)) := fun Y => by
    after_results
    rfl
  rw [e, after_of_writes_sub hostOps0_1 _ hostOps0_1_writes (by decide), after_of_writes_sub hostOps0 _ hostOps0_writes (by decide),
    after_of_writes_sub (r := main_v0) hostOps0_1 _ hostOps0_1_writes (by decide), take1_eq, select_at, h.mask b l hl, select_one,
    take1_at _ _ b l _ (h.small b l hl) (h.index b l), pAt, EReal.coe_strictMono.monotone.map_max]
  split_ifs with e
  · rw [h.prob b ⟨_, e⟩]
  · rw [(h.fits b b.isLt l l.isLt).2 (by omega), max_eq_right bot_le, max_eq_right (EReal.coe_le_coe_iff.mpr tenth_pos.le)]

/-- The concept tokens are as launched when the loop's inputs are computed. -/
theorem tokens_kept : after hostOps0_2 (after hostOps0_1 (after hostOps0 V)) (Proc.devRef .tc main_arg0) = V (Proc.devRef .tc main_arg0) := by
  rw [after_of_writes_sub hostOps0_2 _ hostOps0_2_writes (by decide), after_of_writes_sub hostOps0_1 _ hostOps0_1_writes (by decide),
    after_of_writes_sub hostOps0 _ hostOps0_writes (by decide)]

/-- Before the loop: the decays, -/
theorem pre0_at (h : Holds V B I T E W) (k : Fin 2047) (b : Fin 8) :
    afterL preI V (Proc.devRef .tc main_v19_0) (ix2 k b) = (aAt (B b) (I b) (k.val + 1) : EReal) := by
  show after hostOps0_3 (after hostOps0_2 (after hostOps0_1 (after hostOps0 V))) (Proc.devRef .tc main_v19_0) (ix2 k b) = _
  have hg := gathered_at h b ⟨k.val + 1, by omega⟩ k.val.succ_pos
  generalize after hostOps0_2 (after hostOps0_1 (after hostOps0 V)) = U at hg ⊢
  after_results
  rw [id_eq]
  pointwise
  simp only [Nat.add_comm 1 k.val]
  rw [ofBits_tenth, hg, ofBits_eps, ← EReal.coe_one, ← EReal.coe_sub,
    ← EReal.coe_strictMono.monotone.map_max]
  rfl
/-- the inputs, -/
theorem pre1_at (h : Holds V B I T E W) (k : Fin 2047) (b : Fin 8) (d : Fin 2048) :
    afterL preI V (Proc.devRef .tc main_v19_1) (ix3 k b d) = (pAt (B b) (I b) (k.val + 1) : EReal) * T b (k.val + 1) d := by
  show after hostOps0_3 (after hostOps0_2 (after hostOps0_1 (after hostOps0 V))) (Proc.devRef .tc main_v19_1) (ix3 k b d) = _
  have hg := gathered_at h b ⟨k.val + 1, by omega⟩ k.val.succ_pos
  have hT := h.token b ⟨k.val + 1, by omega⟩ d
  rw [← tokens_kept (V := V)] at hT
  generalize after hostOps0_2 (after hostOps0_1 (after hostOps0 V)) = U at hg hT ⊢
  after_results
  rw [id_eq]
  pointwise
  simp only [Nat.add_comm 1 k.val]
  rw [ofBits_tenth, hg, hT]
/-- the state, -/
theorem pre3_at (h : Holds V B I T E W) (b : Fin 8) (d : Fin 2048) :
    afterL preI V (Proc.devRef .tc main_v19_3) (ix2 b d) = T b 0 d := by
  show after hostOps0_3 (after hostOps0_2 (after hostOps0_1 (after hostOps0 V))) (Proc.devRef .tc main_v19_3) (ix2 b d) = _
  have hT := h.token b 0 d
  rw [← tokens_kept (V := V)] at hT
  generalize after hostOps0_2 (after hostOps0_1 (after hostOps0 V)) = U at hT ⊢
  after_results
  pointwise
  exact hT
/-- and the first token. -/
theorem pre6_at (h : Holds V B I T E W) (b : Fin 8) (d : Fin 2048) :
    afterL preI V (Proc.devRef .tc main_v6) (ix2 b d) = T b 0 d := by
  show after hostOps0_3 (after hostOps0_2 (after hostOps0_1 (after hostOps0 V))) (Proc.devRef .tc main_v6) (ix2 b d) = _
  have hT := h.token b 0 d
  rw [← tokens_kept (V := V)] at hT
  generalize after hostOps0_2 (after hostOps0_1 (after hostOps0 V)) = U at hT ⊢
  after_results
  pointwise
  exact hT

end Cert.ReferenceIdeal.Hand

end
-- ==== Proof.RefValue2.lean ====
/-
  The reference's loop at the extended reals: after `k` trips the state is the recurrence's value at `k` and the `k` first
  rows of the stack are its values at 1, …, `k`.
-/
module

public import proofs.«01_k».proof.Proof.RefValue1

@[expose] public section

set_option maxRecDepth 16384

noncomputable section

namespace Cert.ReferenceIdeal.Hand

open Cert.ReferenceIdeal Cert.ReferenceIdeal.Gen Cert.ReferenceIdeal.Value Cert.Smooth
open Idealize.ShloMosaic Idealize.ShloMosaic.TcCoe Idealize.ShloMosaic.WordCmp Idealize.ShloMosaic.StableHlo

variable {V : Valuation τ sig (Elt Ideal)} {B : ℕ → ℕ → ℝ} {I : ℕ → ℕ → ℕ} {T E : ℕ → ℕ → ℕ → EReal} {W : ℕ → ℕ → EReal}

/-- The start of the trip's row in the decays, the inputs and the stack, when the counter is `k`. -/
theorem start2 (k : ℕ) (hk : k < 2047) (a : Fin 2) :
    ((![fun _ => BitVec.ofNat 32 k, constantI S_ 32 0#32] : Fin 2 → (⟨S_, .i32⟩ : BufTy).Contents (Elt Ideal)) a (Shape.Idx.first h_S_)).toInt
      = ((![k, 0] : Fin 2 → ℕ) a : ℤ) := by
  match a with
  | ⟨0, _⟩ => exact toInt_ofNat_of_lt (by omega)
  | ⟨1, _⟩ => rfl
theorem start3 (k : ℕ) (hk : k < 2047) (a : Fin 3) :
    ((![fun _ => BitVec.ofNat 32 k, constantI S_ 32 0#32, constantI S_ 32 0#32] : Fin 3 → (⟨S_, .i32⟩ : BufTy).Contents (Elt Ideal)) a
      (Shape.Idx.first h_S_)).toInt = ((![k, 0, 0] : Fin 3 → ℕ) a : ℤ) := by
  match a with
  | ⟨0, _⟩ => exact toInt_ofNat_of_lt (by omega)
  | ⟨1, _⟩ => rfl
  | ⟨2, _⟩ => rfl

theorem fits2 (k : ℕ) (hk : k < 2047) : S2047x8.Slices ![k, 0] S1x8 := ⟨rfl, fun a => by
  match a with
  | ⟨0, _⟩ => show k + 1 ≤ 2047; omega
  | ⟨1, _⟩ => show 0 + 8 ≤ 8; omega⟩
theorem fits3 (k : ℕ) (hk : k < 2047) : S2047x8x2048.Slices ![k, 0, 0] S1x8x2048 := ⟨rfl, fun a => by
  match a with
  | ⟨0, _⟩ => show k + 1 ≤ 2047; omega
  | ⟨1, _⟩ => show 0 + 8 ≤ 8; omega
  | ⟨2, _⟩ => show 0 + 2048 ≤ 2048; omega⟩

/-- The trip's row of the decays and of the inputs, -/
theorem row2 (x : Vec Ideal S2047x8 .f32) (k : ℕ) (hk : k < 2047) :
    Host.dynamicSlice S1x8 x (fun a => ((![fun _ => BitVec.ofNat 32 k, constantI S_ 32 0#32] : Fin 2 → (⟨S_, .i32⟩ : BufTy).Contents (Elt Ideal)) a
      (Shape.Idx.first h_S_)).toInt) sliceFits_S2047x8_S1x8 = extractStridedSlice S1x8 ![k, 0] x (fits2 k hk) :=
  dynamicSlice_eq_extract _ _ _ _ _ (fits2 k hk) (start2 k hk)
theorem row3 (x : Vec Ideal S2047x8x2048 .f32) (k : ℕ) (hk : k < 2047) :
    Host.dynamicSlice S1x8x2048 x (fun a => ((![fun _ => BitVec.ofNat 32 k, constantI S_ 32 0#32, constantI S_ 32 0#32] :
      Fin 3 → (⟨S_, .i32⟩ : BufTy).Contents (Elt Ideal)) a (Shape.Idx.first h_S_)).toInt) sliceFits_S2047x8x2048_S1x8x2048
        = extractStridedSlice S1x8x2048 ![k, 0, 0] x (fits3 k hk) :=
  dynamicSlice_eq_extract _ _ _ _ _ (fits3 k hk) (start3 k hk)
/-- and the stack with its row replaced. -/
theorem put3 (x : Vec Ideal S2047x8x2048 .f32) (y : Vec Ideal S1x8x2048 .f32) (k : ℕ) (hk : k < 2047) :
    Host.dynamicUpdateSlice x y (fun a => ((![fun _ => BitVec.ofNat 32 k, constantI S_ 32 0#32, constantI S_ 32 0#32] :
      Fin 3 → (⟨S_, .i32⟩ : BufTy).Contents (Elt Ideal)) a (Shape.Idx.first h_S_)).toInt) updateFits_S2047x8x2048_S1x8x2048
        = updateSlice x y ![k, 0, 0] (fits3 k hk) :=
  dynamicUpdateSlice_eq_update _ _ _ _ _ (fits3 k hk) (start3 k hk)

/-- One trip's new state: the decay times the state plus the input. -/
theorem state_at (X : Valuation τ sig (Elt Ideal)) (k : ℕ) (hk : k < 2047) (hc : X (Proc.devRef .tc main_v19_2) = fun _ => BitVec.ofNat 32 k)
    (b : Fin 8) (d : Fin 2048) (a y x : EReal) (ha : X (Proc.devRef .tc main_v19_0) (ix2 ⟨k, hk⟩ b) = a)
    (hy : X (Proc.devRef .tc main_v19_3) (ix2 b d) = y) (hx : X (Proc.devRef .tc main_v19_1) (ix3 ⟨k, hk⟩ b d) = x) :
    res_main_while0b_v56 X (ix2 b d) = a * y + x := by
  unfold res_main_while0b_v56
  rw [hc]
  erw [row2 _ k hk, row3 _ k hk]
  pointwise
  rw [ha, hy, hx]

/-- One trip's new stack: the row of the trip is the new state, the others are kept. -/
theorem stack_at (X : Valuation τ sig (Elt Ideal)) (k : ℕ) (hk : k < 2047) (hc : X (Proc.devRef .tc main_v19_2) = fun _ => BitVec.ofNat 32 k)
    (j : Fin 2047) (b : Fin 8) (d : Fin 2048) :
    step_main_v19_4 X (ix3 j b d) = if j.val = k then res_main_while0b_v56 X (ix2 b d)
      else (X (Proc.devRef .tc main_v19_4) : Vec Ideal S2047x8x2048 .f32) (ix3 j b d) := by
  unfold step_main_v19_4
  rw [hc]
  refine (congrFun (put3 _ _ k hk) (ix3 j b d)).trans ?_
  generalize res_main_while0b_v56 X = y
  pointwise
  by_cases e : j.val = k
  · rw [dif_pos (by omega), if_pos e]
  · rw [dif_neg (by omega), if_neg e]

/-- What the loop has computed after `k` trips. -/
structure Reached (X : Valuation τ sig (Elt Ideal)) (B : ℕ → ℕ → ℝ) (I : ℕ → ℕ → ℕ) (T : ℕ → ℕ → ℕ → EReal) (k : ℕ) : Prop where
  decay : ∀ (j : Fin 2047) (b : Fin 8), X (Proc.devRef .tc main_v19_0) (ix2 j b) = (aAt (B b) (I b) (j.val + 1) : EReal)
  input : ∀ (j : Fin 2047) (b : Fin 8) (d : Fin 2048),
    X (Proc.devRef .tc main_v19_1) (ix3 j b d) = (pAt (B b) (I b) (j.val + 1) : EReal) * T b (j.val + 1) d
  counter : X (Proc.devRef .tc main_v19_2) = fun _ => BitVec.ofNat 32 k
  state : ∀ (b : Fin 8) (d : Fin 2048), X (Proc.devRef .tc main_v19_3) (ix2 b d) = hAt (B b) (I b) (fun j => T b j d) k
  stack : ∀ (j : Fin 2047) (b : Fin 8) (d : Fin 2048), j.val < k →
    X (Proc.devRef .tc main_v19_4) (ix3 j b d) = hAt (B b) (I b) (fun j => T b j d) (j.val + 1)

/-- The loop's entry has made no trip, -/
theorem reached_zero (h : Holds V B I T E W) : Reached (afterL preI V) B I T 0 where
  decay := pre0_at h
  input := pre1_at h
  counter := by
    show after hostOps0_3 (after hostOps0_2 (after hostOps0_1 (after hostOps0 V))) (Proc.devRef .tc main_v19_2) = _
    generalize after hostOps0_2 (after hostOps0_1 (after hostOps0 V)) = U
    after_results
    rfl
  state := pre3_at h
  stack _ _ _ hj := absurd hj (Nat.not_lt_zero _)

/-- and a trip adds one. -/
theorem reached_succ {X : Valuation τ sig (Elt Ideal)} {k : ℕ} (hk : k < 2047) (h : Reached X B I T k) : Reached (STEP X) B I T (k + 1) := by
  have hs : ∀ (b : Fin 8) (d : Fin 2048), res_main_while0b_v56 X (ix2 b d) = hAt (B b) (I b) (fun j => T b j d) (k + 1) := fun b d =>
    state_at X k hk h.counter b d _ _ _ (h.decay ⟨k, hk⟩ b) (h.state b d) (h.input ⟨k, hk⟩ b d)
  refine ⟨?_, ?_, ?_, ?_, ?_⟩
  · rw [STEP_main_v19_0]; exact h.decay
  · rw [STEP_main_v19_1]; exact h.input
  · rw [STEP_main_v19_2, step_main_v19_2, h.counter]
    funext i
    exact addi_ofNat k 1
  · rw [STEP_main_v19_3]; exact hs
  · intro j b d hj
    rw [STEP_main_v19_4, stack_at X k hk h.counter]
    split_ifs with e
    · rw [hs, e]
    · exact h.stack j b d (by omega)

/-- After `k` trips. -/
theorem reached (h : Holds V B I T E W) : ∀ k, k ≤ 2047 → Reached (STEP^[k] (afterL preI V)) B I T k
  | 0, _ => reached_zero h
  | k + 1, hk => by
    rw [Function.iterate_succ_apply']
    exact reached_succ (by omega) (reached h k (by omega))

end Cert.ReferenceIdeal.Hand

end
-- ==== Proof.RefValue3.lean ====
/-
  The reference's value at the extended reals, after its loop: the states in order, the plug-back positions, the second
  gather, the straight-through factor, the residual product, and the result.
-/
module

public import proofs.«01_k».proof.Proof.RefValue2
public import Idealize.ShloMosaic.Lib.Routing.Words

@[expose] public section

set_option maxRecDepth 16384

noncomputable section

namespace Cert.ReferenceIdeal.Hand

open Cert.ReferenceIdeal Cert.ReferenceIdeal.Gen Cert.ReferenceIdeal.Value Cert.Smooth
open Idealize.ShloMosaic Idealize.ShloMosaic.TcCoe Idealize.ShloMosaic.WordCmp Idealize.ShloMosaic.StableHlo
open Idealize.ShloMosaic.Routing

variable {U : Valuation τ sig (Elt Ideal)} {B : ℕ → ℕ → ℝ} {I : ℕ → ℕ → ℕ} {T E : ℕ → ℕ → ℕ → EReal} {W : ℕ → ℕ → EReal}

/-- What the buffers read after the loop hold when it ends. -/
structure Looped (U : Valuation τ sig (Elt Ideal)) (B : ℕ → ℕ → ℝ) (I : ℕ → ℕ → ℕ) (T E : ℕ → ℕ → ℕ → EReal) (W : ℕ → ℕ → EReal) : Prop where
  prob : ∀ (b : Fin 8) (l : Fin 2048), (U (Proc.devRef .tc main_arg2) : Vec Ideal S8x2048 .f32) (ix2 b l) = (B b l : EReal)
  encoded : ∀ (b : Fin 8) (j d : Fin 2048), (U (Proc.devRef .tc main_arg1) : Vec Ideal S8x2048x2048 .f32) (ix3 b j d) = E b j d
  weight : ∀ (d k : Fin 2048), (U (Proc.devRef .tc main_arg5) : Vec Ideal S2048x2048 .f32) (ix2 d k) = W d k
  first : ∀ (b : Fin 8) (d : Fin 2048), (U (Proc.devRef .tc main_v6) : Vec Ideal S8x2048 .f32) (ix2 b d) = T b 0 d
  stack : ∀ (j : Fin 2047) (b : Fin 8) (d : Fin 2048), (U (Proc.devRef .tc main_v19_4) : Vec Ideal S2047x8x2048 .f32) (ix3 j b d)
    = hAt (B b) (I b) (fun j => T b j d) (j.val + 1)

/-! ## The states in order, and the boundaries -/

/-- State `n` of the recurrence, in the stack with the first token in front. -/
theorem states_at (h : Looped U B I T E W) (b : Fin 8) (n d : Fin 2048) :
    after hostOps0_4 U (Proc.devRef .tc main_v22) (ix3 b n d) = hAt (B b) (I b) (fun j => T b j d) n := by
  have h0 := h.first b d
  have h1 := h.stack
  after_results
  pointwise
  by_cases hn : n.val < 1
  · rw [dif_pos hn, h0, show n.val = 0 by omega]
    rfl
  · rw [dif_neg hn, h1]
    show hAt _ _ _ (n.val - 1 + 1) = _
    rw [Nat.sub_add_cancel (by omega)]

/-- A position is a boundary where its probability is at least one half, as a bit, -/
theorem bit_at (h : Looped U B I T E W) (b : Fin 8) (t : Fin 2048) :
    after hostOps0_4 U (Proc.devRef .tc main_v24) (ix2 b t) = BitVec.ofBool (decide (1 / 2 ≤ B b t)) := by
  have h0 := h.prob b t
  after_results
  pointwise
  rw [h0, ofBits_half]
  simp only [EReal.coe_le_coe_iff]
/-- and as a word. -/
theorem word_at (h : Looped U B I T E W) (b : Fin 8) (t : Fin 2048) :
    after hostOps0_4 U (Proc.devRef .tc main_v25) (ix2 b t) = BitVec.ofNat 32 (if 1 / 2 ≤ B b t then 1 else 0) := by
  rw [← setWidth_ofBool, ← bit_at h]
  after_results
  rfl

/-! ## The counts and the plug-back positions -/

/-- The windows of one row's running sum. -/
theorem row_windows : (shape2 1 2048).ReduceWindows (![1, 2048] : Fin 2 → Nat) ![1, 1] ![0, 2047] ![0, 0] (shape2 1 2048) := by decide

/-- One row as a matrix. -/
def rowOf (x : IVec S8x2048 32) (b : Fin 8) : IVec (shape2 1 2048) 32 := fun y => x (ix2 b (y 1))

/-- A running sum along the second axis of eight rows is, in each row, the row's running sum. -/
theorem running_row (x : IVec S8x2048 32) (init : IVec S_ 32) (b : Fin 8) (t : Fin 2048) :
    Host.reduceWindow IntOp.addi ![1, 2048] ![1, 1] ![0, 2047] ![0, 0] x init reduceWindows_S8x2048_S8x2048_w1s1p0_0_w2048s1p2047_0 h_S_ (ix2 b t)
      = Host.reduceWindow IntOp.addi ![1, 2048] ![1, 1] ![0, 2047] ![0, 0] (rowOf x b) init row_windows h_S_ (ix2 (0 : Fin 1) t) := by
  unfold Host.reduceWindow
  refine congrArg (fun f => List.foldl f _ _) (funext fun r => funext fun n => congrArg (IntOp.addi r) ?_)
  have hw0 : ((shape2 1 2048).rowMajor.symm n 0).val = 0 := by rw [symm2]; rfl
  have hb := b.isLt
  dsimp only
  split
  · next hin =>
    have h1 := hin 1
    rw [dif_pos fun a => by
      match a with
      | ⟨0, _⟩ =>
        show 0 ≤ 0 * 1 + ((shape2 1 2048).rowMajor.symm n 0).val ∧ 0 * 1 + ((shape2 1 2048).rowMajor.symm n 0).val - 0 < 1
        rw [hw0]
        omega
      | ⟨1, _⟩ => exact h1]
    refine congrArg x (funext fun a => Fin.ext ?_)
    match a with
    | ⟨0, _⟩ =>
      show b.val * 1 + ((shape2 1 2048).rowMajor.symm n 0).val - 0 = b.val
      rw [hw0]
      omega
    | ⟨1, _⟩ => rfl
  · next hin =>
    rw [dif_neg fun hle => hin fun a => by
      match a with
      | ⟨0, _⟩ =>
        show 0 ≤ b.val * 1 + ((shape2 1 2048).rowMajor.symm n 0).val ∧ b.val * 1 + ((shape2 1 2048).rowMajor.symm n 0).val - 0 < 8
        rw [hw0]
        omega
      | ⟨1, _⟩ => exact hle 1]

attribute [local irreducible] Host.reduceWindow in
/-- The count of boundaries up to and including `t`. -/
theorem count_at (h : Looped U B I T E W) (b : Fin 8) (t : Fin 2048) :
    after hostOps0_5 (after hostOps0_4 U) (Proc.devRef .tc main_v26) (ix2 b t) = BitVec.ofNat 32 (countAt (B b) t) := by
  have hw := word_at h b
  generalize after hostOps0_4 U = X at hw ⊢
  have e : after hostOps0_5 X (Proc.devRef .tc main_v26) = Host.reduceWindow IntOp.addi ![1, 2048] ![1, 1] ![0, 2047] ![0, 0]
      (X (Proc.devRef .tc main_v25)) (broadcastInDim S_ ![] bcast_S_S_ (constantI S_ 32 0#32)) reduceWindows_S8x2048_S8x2048_w1s1p0_0_w2048s1p2047_0 h_S_ := by
    after_results
    rfl
  rw [e]
  refine (running_row _ _ b t).trans ?_
  refine (cumsum2 (N := 2048) (Nm1 := 2047) rfl (rowOf (X (Proc.devRef .tc main_v25)) b) (fun t => if 1 / 2 ≤ B b t then 1 else 0) hw _ rfl
    row_windows h_S_ t).trans ?_
  rfl

/-- The plug-back position of `t`, copied along the channels. -/
theorem plug_at (h : Looped U B I T E W) (b : Fin 8) (t d : Fin 2048) :
    after hostOps0_6 (after hostOps0_5 (after hostOps0_4 U)) (Proc.devRef .tc main_v32) (ix3 b t d) = BitVec.ofNat 32 (plugAt (B b) t) := by
  have hc := count_at h b t
  generalize after hostOps0_5 (after hostOps0_4 U) = X at hc ⊢
  after_results
  pointwise
  rw [hc]
  exact maxsi_pred (by have := countAt_le (B b) t; omega)

/-! ## The second gather -/

/-- The start indices of the second gather: a negative index counted from the end. -/
def starts2 (i : Vec Ideal S8x2048x2048 .i32) : Vec Ideal S8x2048x2048x1 .i32 :=
  shapeCast S8x2048x2048x1 (select (cmpi .slt i (broadcastInDim S8x2048x2048 ![] bcast_S_S8x2048x2048 (constantI S_ 32 0#32)))
    (addi i (broadcastInDim S8x2048x2048 ![] bcast_S_S8x2048x2048 (constantI S_ 32 2048#32))) i) shapeCasts_S8x2048x2048_S8x2048x2048x1

/-- Which of them are in range. -/
def inside2 (v : Vec Ideal S8x2048x2048x1 .i32) : Vec Ideal S8x2048x2048x1 .i1 :=
  andi (cmpi .sge v (broadcastInDim S8x2048x2048x1 ![] bcast_S_S8x2048x2048x1 (constantI S_ 32 0#32)))
    (cmpi .sle v (broadcastInDim S8x2048x2048x1 ![0, 1, 2, 3] bcast_S1x1x1x1_S8x2048x2048x1_0_1_2_3
      (broadcastInDim S1x1x1x1 ![3] bcast_S1_S1x1x1x1_3 (constantI S1 32 2047#32))))

/-- The second gather, filled where it is out of range. -/
def take2 (x : Vec Ideal S8x2048x2048 .f32) (i : Vec Ideal S8x2048x2048 .i32) : Vec Ideal S8x2048x2048 .f32 :=
  select (Host.reduce IntOp.andi (inside2 (starts2 i)) (constantI S_ 1 1#1) reducesTo_S8x2048x2048x1_S8x2048x2048_d3 h_S_)
    (Host.gather gather_S8x2048x2048_S8x2048x2048x1_S8x2048x2048_n_1_02_02_1_3_111 x (starts2 i))
    (broadcastInDim S8x2048x2048 ![] bcast_S_S8x2048x2048 (constant (F := Ideal) S_ .f32 0x7FC00000#32))

set_option maxRecDepth 100000 in
theorem take2_eq (X : Valuation τ sig (Elt Ideal)) :
    after hostOps0_7 X (Proc.devRef .tc main_v33) = take2 (X (Proc.devRef .tc main_v22)) (X (Proc.devRef .tc main_v32)) := by
  after_results
  simp -implicitDefEqProofs only [TRef.toBuf, TRef.ofBuf, cast_cast, cast_eq]
  rw [take2, inside2, starts2]
  rfl

theorem starts2_at (i : Vec Ideal S8x2048x2048 .i32) (b : Fin 8) (t d : Fin 2048) (n : ℕ) (hn : n < 2048) (h : i (ix3 b t d) = BitVec.ofNat 32 n) :
    starts2 i (ix4 b t d 0) = BitVec.ofNat 32 n := by
  pointwise [starts2]
  rw [h, show IntOp.cmpi CmpIPredicate.slt (BitVec.ofNat 32 n) 0#32 = 0#1 by
    rw [cmpi_slt_ofNat (by omega) (by omega), ofBool_eq_zero_iff]; simp]
  rfl

theorem inside2_all (i : Vec Ideal S8x2048x2048 .i32) (P : ℕ → ℕ → ℕ) (hP : ∀ b t : ℕ, t < 2048 → P b t < 2048)
    (h : ∀ (b : Fin 8) (t d : Fin 2048), i (ix3 b t d) = BitVec.ofNat 32 (P b t)) (y : S8x2048x2048x1.Idx) : inside2 (starts2 i) y = 1#1 := by
  idx_vars y
  obtain rfl : y3 = 0 := Subsingleton.elim _ _
  pointwise [inside2]
  rw [starts2_at i y0 y1 y2 _ (hP _ _ y1.isLt) (h y0 y1 y2)]
  have := hP y0 _ y1.isLt
  rw [cmpi_sge_ofNat (by omega) (by omega), cmpi_sle_ofNat (by omega) (by omega), andi_ofBool, ofBool_eq_one_iff]
  simp
  omega

theorem operand2 (v : Vec Ideal S8x2048x2048x1 .i32) (b : Fin 8) (t d : Fin 2048) (n : ℕ) (hn : n < 2048) (h : v (ix4 b t d 0) = BitVec.ofNat 32 n) :
    gather_S8x2048x2048_S8x2048x2048x1_S8x2048x2048_n_1_02_02_1_3_111.operandIdx (ix3 b t d) v = ix3 b ⟨n, hn⟩ d := by
  have hs : gather_S8x2048x2048_S8x2048x2048x1_S8x2048x2048_n_1_02_02_1_3_111.siIdx (ix3 b t d) ⟨0, by decide⟩ = ix4 b t d 0 := by
    funext a
    match a with
    | ⟨0, _⟩ => rfl
    | ⟨1, _⟩ => rfl
    | ⟨2, _⟩ => rfl
    | ⟨3, _⟩ => rfl
  funext a
  apply Fin.ext
  match a with
  | ⟨0, _⟩ => show 0 + b.val + 0 = b.val; omega
  | ⟨1, _⟩ =>
    show min (v (gather_S8x2048x2048_S8x2048x2048x1_S8x2048x2048_n_1_02_02_1_3_111.siIdx (ix3 b t d) ⟨0, _⟩)).toInt.toNat (2048 - 1) + 0 + 0 = n
    rw [hs, h, toInt_ofNat_of_lt (by omega)]
    omega
  | ⟨2, _⟩ => show 0 + d.val + 0 = d.val; omega

/-- In range, the second gather reads the row at the index. -/
theorem take2_at (x : Vec Ideal S8x2048x2048 .f32) (i : Vec Ideal S8x2048x2048 .i32) (P : ℕ → ℕ → ℕ) (hP : ∀ b t : ℕ, t < 2048 → P b t < 2048)
    (h : ∀ (b : Fin 8) (t d : Fin 2048), i (ix3 b t d) = BitVec.ofNat 32 (P b t)) (b : Fin 8) (t d : Fin 2048) :
    take2 x i (ix3 b t d) = x (ix3 b ⟨P b t, hP b t t.isLt⟩ d) := by
  rw [take2, select_at, Host.reduce_andi_one _ _ _ _ _ rfl (inside2_all i P hP h), select_one]
  exact congrArg x (operand2 (starts2 i) b t d _ (hP b t t.isLt) (starts2_at i b t d _ (hP b t t.isLt) (h b t d)))

/-- The state at the plug-back position. -/
theorem plugged_at (h : Looped U B I T E W) (b : Fin 8) (t d : Fin 2048) :
    after hostOps0_7 (after hostOps0_6 (after hostOps0_5 (after hostOps0_4 U))) (Proc.devRef .tc main_v33) (ix3 b t d)
      = hAt (B b) (I b) (fun j => T b j d) (plugAt (B b) t) := by
  have hP : ∀ b t : ℕ, t < 2048 → plugAt (B b) t < 2048 := fun b t ht => lt_of_le_of_lt (plugAt_le _ _) ht
  rw [take2_eq, take2_at _ _ (fun b t => plugAt (B b) t) hP (plug_at h), after_of_writes_sub hostOps0_6 _ hostOps0_6_writes (by decide),
    after_of_writes_sub hostOps0_5 _ hostOps0_5_writes (by decide)]
  exact states_at h b ⟨_, hP b t t.isLt⟩ d

/-! ## The result -/

/-- The straight-through factor is one: a real and one less the real. -/
theorem factor_one (r : ℝ) : (r : EReal) + (1 - r) = 1 := by
  rw [← EReal.coe_one, ← EReal.coe_sub, ← EReal.coe_add]
  congr 1
  ring

/-- What the last stretch computes from the bit, the probability, the state, the encoder's row and the weights. -/
theorem last_at (X : Valuation τ sig (Elt Ideal)) (b : Fin 8) (t d : Fin 2048) (p : Prop) [Decidable p] (r : ℝ) (s : EReal) (e w : ℕ → EReal)
    (h24 : (X (Proc.devRef .tc main_v24) : Vec Ideal S8x2048 .i1) (ix2 b t) = BitVec.ofBool (decide p))
    (h2 : (X (Proc.devRef .tc main_arg2) : Vec Ideal S8x2048 .f32) (ix2 b t) = (r : EReal))
    (h33 : (X (Proc.devRef .tc main_v33) : Vec Ideal S8x2048x2048 .f32) (ix3 b t d) = s)
    (h1 : ∀ k : Fin 2048, (X (Proc.devRef .tc main_arg1) : Vec Ideal S8x2048x2048 .f32) (ix3 b t k) = e k)
    (h5 : ∀ k : Fin 2048, (X (Proc.devRef .tc main_arg5) : Vec Ideal S2048x2048 .f32) (ix2 d k) = w k) :
    after hostOps0_8 X (Proc.devRef .tc main_v50) (ix3 b t d) = s + ∑ j ∈ Finset.range 2048, e j * w j := by
  after_results
  pointwise
  rw [h24, h2, h33]
  simp only [h1, h5]
  rw [show (FloatOps.uitofp FTy.f32 (BitVec.ofBool (decide p)) : Ideal .f32) = (((BitVec.ofBool (decide p)).toNat : ℝ) : EReal) from rfl]
  generalize ((BitVec.ofBool (decide p)).toNat : ℝ) = q
  rw [show (q : EReal) * r + (1 - q) * (1 - r) = ((q * r + (1 - q) * (1 - r) : ℝ) : EReal) by
    rw [← EReal.coe_one, ← EReal.coe_sub, ← EReal.coe_sub, ← EReal.coe_mul, ← EReal.coe_mul, ← EReal.coe_add], factor_one, one_mul, Finset.sum_range]

/-- A buffer that the four stretches before the last do not write. -/
theorem post_arg (r : Ref sig .tc) (h : r ∉ hostOps0_4_W ++ hostOps0_5_W ++ hostOps0_6_W ++ hostOps0_7_W) :
    after hostOps0_7 (after hostOps0_6 (after hostOps0_5 (after hostOps0_4 U))) (Proc.devRef .tc r) = U (Proc.devRef .tc r) := by
  simp only [List.mem_append, not_or] at h
  rw [after_of_writes_sub hostOps0_7 _ hostOps0_7_writes h.2, after_of_writes_sub hostOps0_6 _ hostOps0_6_writes h.1.2,
    after_of_writes_sub hostOps0_5 _ hostOps0_5_writes h.1.1.2, after_of_writes_sub hostOps0_4 _ hostOps0_4_writes h.1.1.1]

/-- The reference's result, from what its loop leaves. -/
theorem result_at (h : Looped U B I T E W) (b : Fin 8) (t d : Fin 2048) :
    afterL postI U (Proc.devRef .tc main_v50) (ix3 b t d)
      = hAt (B b) (I b) (fun j => T b j d) (plugAt (B b) t) + ∑ j ∈ Finset.range 2048, E b t j * W d j := by
  refine last_at (after hostOps0_7 (after hostOps0_6 (after hostOps0_5 (after hostOps0_4 U)))) b t d (1 / 2 ≤ B b t) (B b t) _ (E b t) (W d)
    ?_ ?_ (plugged_at h b t d) ?_ ?_
  · rw [after_of_writes_sub hostOps0_7 _ hostOps0_7_writes (by decide), after_of_writes_sub hostOps0_6 _ hostOps0_6_writes (by decide),
      after_of_writes_sub hostOps0_5 _ hostOps0_5_writes (by decide)]
    exact bit_at h b t
  · rw [post_arg main_arg2 (by decide)]
    exact h.prob b t
  · rw [post_arg main_arg1 (by decide)]
    exact h.encoded b t
  · rw [post_arg main_arg5 (by decide)]
    exact h.weight d

end Cert.ReferenceIdeal.Hand

end
-- ==== Proof.Range.lean ====
/-
  What the precondition says of the arguments: every boundary probability is real and, past the first column, no boundary
  index is negative and every position is a concept. The arguments' values as functions of natural numbers.
-/
module

public import proofs.«01_k».proof.Proof.Frames
public import Idealize.ShloMosaic.Lib.Pointwise
public import Idealize.ShloMosaic.Lib.WordCmp
public import Idealize.ShloMosaic.Lib.ReduceAll
public import proofs.«01_k».proof.Proof.Smooth

@[expose] public section

noncomputable section

namespace Cert.Hand

open Idealize.ShloMosaic Idealize.ShloMosaic.WordCmp Cert.Smooth
open Cert.Pre_in_range (S8x2048x2048 S8x2048 S2048x2048)

/-- The boundary probabilities as reals, -/
def probs (x : Vec Ideal S8x2048 .f32) (b l : ℕ) : ℝ := if h : b < 8 ∧ l < 2048 then EReal.toReal (x (ix2 ⟨b, h.1⟩ ⟨l, h.2⟩)) else 0
/-- the boundary indices as numbers, -/
def indices (x : Vec Ideal S8x2048 .i32) (b l : ℕ) : ℕ := if h : b < 8 ∧ l < 2048 then (x (ix2 ⟨b, h.1⟩ ⟨l, h.2⟩)).toNat else 0
/-- the entries of a stack of eight matrices, -/
def entries3 (x : Vec Ideal S8x2048x2048 .f32) (b j d : ℕ) : EReal :=
  if h : b < 8 ∧ j < 2048 ∧ d < 2048 then x (ix3 ⟨b, h.1⟩ ⟨j, h.2.1⟩ ⟨d, h.2.2⟩) else 0
/-- and of one matrix. -/
def entries2 (x : Vec Ideal S2048x2048 .f32) (d k : ℕ) : EReal := if h : d < 2048 ∧ k < 2048 then x (ix2 ⟨d, h.1⟩ ⟨k, h.2⟩) else 0

theorem entries3_at (x : Vec Ideal S8x2048x2048 .f32) (b : Fin 8) (j d : Fin 2048) : x (ix3 b j d) = entries3 x b j d := by
  rw [entries3, dif_pos ⟨b.isLt, j.isLt, d.isLt⟩]
theorem entries2_at (x : Vec Ideal S2048x2048 .f32) (d k : Fin 2048) : x (ix2 d k) = entries2 x d k := by
  rw [entries2, dif_pos ⟨d.isLt, k.isLt⟩]

/-- A word that is at least zero, read signed, is below half of the words. -/
theorem word_lt (v : BitVec 32) (h : IntOp.cmpi .sge v 0#32 = 1#1) : v.toNat < 2 ^ 31 := by
  rw [IntOp.cmpi_sge, show (0#32 : BitVec 32).toInt = 0 from rfl, BitVec.toInt_eq_toNat_cond] at h
  split at h <;> omega

theorem indices_at (x : Vec Ideal S8x2048 .i32) (b : Fin 8) (l : Fin 2048) : indices x b l = (x (ix2 b l)).toNat :=
  dif_pos (c := b.val < 8 ∧ l.val < 2048) ⟨b.isLt, l.isLt⟩
theorem index_word (x : Vec Ideal S8x2048 .i32) (b : Fin 8) (l : Fin 2048) : x (ix2 b l) = BitVec.ofNat 32 (indices x b l) := by
  rw [indices_at, BitVec.ofNat_toNat, BitVec.setWidth_eq]

/-- An index that is no position has probability zero, since there is no probability at it. -/
theorem fits (x : Vec Ideal S8x2048 .f32) (i : Vec Ideal S8x2048 .i32) (b : ℕ) (hb : b < 8) : Fits (probs x b) (indices i b) := fun m hm => by
  refine ⟨?_, fun h => dif_neg fun e => absurd e.2 (by omega)⟩
  rw [indices_at i ⟨b, hb⟩ ⟨m, hm⟩]
  exact BitVec.isLt _

/-- Past the first column, the slice's entry before is the array's entry. -/
theorem slice_at {α : Type} (x : S8x2048.Idx → α) (b : Fin 8) (l : Fin 2048) (hl : 0 < l.val) (hs : S8x2048.Slices ![0, 1] Cert.Pre_in_range.S8x2047) :
    extractStridedSlice Cert.Pre_in_range.S8x2047 ![0, 1] x hs (ix2 b ⟨l.val - 1, by omega⟩) = x (ix2 b l) := by
  pointwise
  exact congrArg (fun k => x (ix2 b k)) (Fin.ext (by show 1 + (l.val - 1) = l.val; omega))

variable {x0 x1 : Vec Ideal S8x2048x2048 .f32} {x2 : Vec Ideal S8x2048 .f32} {x3 : Vec Ideal S8x2048 .i32} {x4 : Vec Ideal S8x2048 .i1}
  {x5 : Vec Ideal S2048x2048 .f32}

/-- The precondition, element by element: a probability is real, -/
theorem prob_real (h : Cert.Pre_in_range.fn (F := Ideal) x0 x1 x2 x3 x4 x5 = fun _ => 1#1) (b : Fin 8) (l : Fin 2048) :
    x2 (ix2 b l) = (probs x2 b l : EReal) := by
  obtain ⟨h1, -⟩ := IntOp.andi_eq_one.1 (IntOp.andi_eq_one.1 (congrFun h ix0)).1
  haveI : Subsingleton Cert.Pre_in_range.S_.Idx := ⟨fun a b => funext fun i => i.elim0⟩
  obtain ⟨ea, eb⟩ := IntOp.andi_eq_one.1 (Host.reduce_andi_all _ _ _ _ _ h1 (ix2 b l))
  rw [probs, dif_pos (c := b.val < 8 ∧ l.val < 2048) ⟨b.isLt, l.isLt⟩]
  change Ideal.cmp .ogt (x2 (ix2 b l)) (Ideal.ofBits .f32 0xFF800000#32) = 1#1 at ea
  change Ideal.cmp .olt (x2 (ix2 b l)) (Ideal.ofBits .f32 0x7F800000#32) = 1#1 at eb
  rw [ofBits_neg_inf] at ea
  rw [ofBits_inf] at eb
  exact (EReal.coe_toReal (ne_of_lt (of_decide_eq_true ((ofBool_eq_one_iff _).1 eb))) (ne_of_gt (of_decide_eq_true ((ofBool_eq_one_iff _).1 ea)))).symm

/-- an index past the first is not negative, -/
theorem index_small (h : Cert.Pre_in_range.fn (F := Ideal) x0 x1 x2 x3 x4 x5 = fun _ => 1#1) (b : Fin 8) (l : Fin 2048) (hl : 0 < l.val) :
    indices x3 b l < 2 ^ 31 := by
  obtain ⟨-, h2⟩ := IntOp.andi_eq_one.1 (IntOp.andi_eq_one.1 (congrFun h ix0)).1
  haveI : Subsingleton Cert.Pre_in_range.S_.Idx := ⟨fun a b => funext fun i => i.elim0⟩
  have e := Host.reduce_andi_all _ _ _ _ _ h2 (ix2 b ⟨l.val - 1, by omega⟩)
  rw [indices_at, ← slice_at x3 b l hl Cert.Pre_in_range.Facts.slices_S8x2048_S8x2047_0_1]
  exact word_lt _ e

/-- and a position past the first is a concept. -/
theorem mask_set (h : Cert.Pre_in_range.fn (F := Ideal) x0 x1 x2 x3 x4 x5 = fun _ => 1#1) (b : Fin 8) (l : Fin 2048) (hl : 0 < l.val) :
    x4 (ix2 b l) = 1#1 := by
  obtain ⟨-, h3⟩ := IntOp.andi_eq_one.1 (congrFun h ix0)
  haveI : Subsingleton Cert.Pre_in_range.S_.Idx := ⟨fun a b => funext fun i => i.elim0⟩
  rw [← slice_at x4 b l hl Cert.Pre_in_range.Facts.slices_S8x2048_S8x2047_0_1]
  exact Host.reduce_andi_all _ _ _ _ _ h3 (ix2 b ⟨l.val - 1, by omega⟩)

end Cert.Hand

end
-- ==== Proof.Algebraic.lean ====
/-
  The value claim: where the precondition holds, the idealized kernel and the reference end with equal results at the
  extended reals. Both results are one formula of the arguments' values, `result`.
-/
module

public import proofs.«01_k».proof.Proof.IdealValue3
public import proofs.«01_k».proof.Proof.RefValue3
public import proofs.«01_k».proof.Proof.Range

@[expose] public section

set_option maxRecDepth 16384

noncomputable section

namespace Cert.ReferenceIdeal.Hand

open Cert.ReferenceIdeal Cert.ReferenceIdeal.Gen Cert.ReferenceIdeal.Value Cert.Smooth
open Idealize.ShloMosaic Idealize.ShloMosaic.TcCoe Idealize.ShloMosaic.StableHlo

variable {m : (ℓ : Loc nD τ sig) → Buf (Elt Ideal) ℓ} {c : Dev nD} {B : ℕ → ℕ → ℝ} {I : ℕ → ℕ → ℕ} {T E : ℕ → ℕ → ℕ → EReal} {W : ℕ → ℕ → EReal}

/-- What the loop leaves, where the arguments hold `B`, `I`, `T`, `E` and `W` at launch. -/
theorem looped (h : Holds (launchContents m c) B I T E W) : Looped (after condOps (atK m 2047 c)) B I T E W := by
  have hk : ∀ r : Ref sig .tc, r ∉ loopW → after condOps (atK m 2047 c) (Proc.devRef .tc r) = afterL preI (launchContents m c) (Proc.devRef .tc r) :=
    fun r hr => (after_of_writes_sub condOps _ condOps_writes fun e => hr (List.mem_append_left _ e)).trans (loop_keeps m c r hr 2047)
  have ha : ∀ r : Ref sig .tc, r ∉ loopW → r ∉ hostOps0_W ++ hostOps0_1_W ++ hostOps0_2_W ++ hostOps0_3_W →
      after condOps (atK m 2047 c) (Proc.devRef .tc r) = launchContents m c (Proc.devRef .tc r) := fun r hr hp => (hk r hr).trans (pre_keeps _ r hp)
  have hs : after condOps (atK m 2047 c) (Proc.devRef .tc main_v19_4) = STEP^[2047] (afterL preI (launchContents m c)) (Proc.devRef .tc main_v19_4) :=
    (after_of_writes_sub condOps _ condOps_writes (by decide)).trans (atK_agree m c 2047 _ (by decide))
  refine ⟨?_, ?_, ?_, ?_, ?_⟩
  · rw [ha main_arg2 (by decide) (by decide)]
    exact h.prob
  · rw [ha main_arg1 (by decide) (by decide)]
    exact h.encoded
  · rw [ha main_arg5 (by decide) (by decide)]
    exact h.weight
  · rw [hk main_v6 (by decide)]
    exact pre6_at h
  · rw [hs]
    exact fun j b d => (reached h 2047 (le_refl _)).stack j b d j.isLt

end Cert.ReferenceIdeal.Hand

namespace Cert.Hand

open Idealize.ShloMosaic Idealize.ShloMosaic.TcCoe Idealize.SL.Sem Cert.Smooth
open Cert.Pre_in_range (S8x2048x2048 S8x2048 S2048x2048)

/-- The result: the recurrence's state at the plug-back position, plus the encoder's row times the weights. -/
def result (x0 x1 : Vec Ideal S8x2048x2048 .f32) (x2 : Vec Ideal S8x2048 .f32) (x3 : Vec Ideal S8x2048 .i32) (x5 : Vec Ideal S2048x2048 .f32) :
    Vec Ideal S8x2048x2048 .f32 := fun y =>
  hAt (probs x2 (y 0).val) (indices x3 (y 0).val) (fun j => entries3 x0 (y 0).val j (y 2).val) (plugAt (probs x2 (y 0).val) (y 1).val)
    + ∑ j ∈ Finset.range 2048, entries3 x1 (y 0).val (y 1).val j * entries2 x5 (y 2).val j

/-- The idealized kernel's result. -/
theorem kernel_result {m : (ℓ : Loc Cert.KernelIdeal.nD Cert.KernelIdeal.τ Cert.KernelIdeal.sig) → Buf (Elt Ideal) ℓ} (h : Cert.Pre_KernelIdeal_in_range m)
    (c : Dev Cert.KernelIdeal.nD) :
    Cert.KernelIdeal.Hand.W4 m c (Proc.devRef .tc Cert.KernelIdeal.main_v5)
      = result (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg5)) :=
  Cert.KernelIdeal.Hand.result_at
    { prob := prob_real (h c)
      index := index_word _
      token := entries3_at _
      encoded := entries3_at _
      weight := entries2_at _
      fits := fits _ _ }

/-- The reference's result, from arguments that satisfy the precondition. -/
theorem reference_result {m : (ℓ : Loc Cert.ReferenceIdeal.nD Cert.ReferenceIdeal.τ Cert.ReferenceIdeal.sig) → Buf (Elt Ideal) ℓ}
    (h : Cert.Pre_ReferenceIdeal_in_range m) (c : Dev Cert.ReferenceIdeal.nD) :
    Idealize.ShloMosaic.StableHlo.finalContents Cert.ReferenceIdeal.Value.condOps Cert.ReferenceIdeal.Value.preI Cert.ReferenceIdeal.Value.bodyI
        Cert.ReferenceIdeal.Value.postI 2047 m c (Proc.devRef .tc Cert.ReferenceIdeal.main_v50)
      = result (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg5)) := by
  have hh : Cert.ReferenceIdeal.Hand.Holds (Idealize.ShloMosaic.StableHlo.launchContents m c) _ _ _ _ _ :=
    { prob := prob_real (h c)
      index := index_word _
      small := index_small (h c)
      mask := mask_set (h c)
      token := entries3_at _
      encoded := entries3_at _
      weight := entries2_at _
      fits := fits _ _ }
  funext y
  idx_vars y
  exact Cert.ReferenceIdeal.Hand.result_at (Cert.ReferenceIdeal.Hand.looped hh) y0 y1 y2

/-- At the extended reals, from memories that agree on the arguments and satisfy the precondition, the idealized kernel
    and the reference both run, end with equal results, and leave their arguments as they were. -/
theorem algebraic : Cert.algebraic_KernelIdeal_ReferenceIdeal_pre_in_range := by
  intro m g m' g' hp ha
  have hp' : Cert.Pre_ReferenceIdeal_in_range m' := fun c => by
    obtain ⟨a0, a1, a2, a3, a4, a5⟩ := ha c
    rw [a0, a1, a2, a3, a4, a5]
    exact hp c
  refine ⟨fun c => Cert.KernelIdeal.Hand.W4 m c (Proc.devRef .tc Cert.KernelIdeal.main_v5), ?_, ?_⟩
  · refine (θ_run _ _ _).mono (fun r h c => ?_) (Cert.KernelIdeal.Hand.run_main m g)
    exact ⟨h.1 c _ rfl, (h.1 c Cert.KernelIdeal.main_arg0 rfl).trans (Cert.KernelIdeal.Hand.W4_keeps m c _ (by decide)),
      (h.1 c Cert.KernelIdeal.main_arg1 rfl).trans (Cert.KernelIdeal.Hand.W4_keeps m c _ (by decide)),
      (h.1 c Cert.KernelIdeal.main_arg2 rfl).trans (Cert.KernelIdeal.Hand.W4_keeps m c _ (by decide)),
      (h.1 c Cert.KernelIdeal.main_arg3 rfl).trans (Cert.KernelIdeal.Hand.W4_keeps m c _ (by decide)),
      (h.1 c Cert.KernelIdeal.main_arg4 rfl).trans (Cert.KernelIdeal.Hand.W4_keeps m c _ (by decide)),
      (h.1 c Cert.KernelIdeal.main_arg5 rfl).trans (Cert.KernelIdeal.Hand.W4_keeps m c _ (by decide))⟩
  · refine (θ_run _ _ _).mono (fun r h c => ?_) (Cert.ReferenceIdeal.Value.run_fold m' g')
    refine ⟨?_, (h c Cert.ReferenceIdeal.main_arg0 rfl).trans (Cert.ReferenceIdeal.Hand.final_keeps m' c _ (by decide)),
      (h c Cert.ReferenceIdeal.main_arg1 rfl).trans (Cert.ReferenceIdeal.Hand.final_keeps m' c _ (by decide)),
      (h c Cert.ReferenceIdeal.main_arg2 rfl).trans (Cert.ReferenceIdeal.Hand.final_keeps m' c _ (by decide)),
      (h c Cert.ReferenceIdeal.main_arg3 rfl).trans (Cert.ReferenceIdeal.Hand.final_keeps m' c _ (by decide)),
      (h c Cert.ReferenceIdeal.main_arg4 rfl).trans (Cert.ReferenceIdeal.Hand.final_keeps m' c _ (by decide)),
      (h c Cert.ReferenceIdeal.main_arg5 rfl).trans (Cert.ReferenceIdeal.Hand.final_keeps m' c _ (by decide))⟩
    obtain ⟨a0, a1, a2, a3, -, a5⟩ := ha c
    rw [h c Cert.ReferenceIdeal.main_v50 rfl, reference_result hp' c, a0, a1, a2, a3, a5]
    exact (kernel_result hp c).symm

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All the claims: the five frames, the named constant, and the equality of the two results at the extended reals. -/
theorem claim : Cert.Claim := ⟨Cert.Kernel.Gen.facts, Cert.KernelIdeal.Gen.facts, Cert.ReferenceIdeal.Gen.facts, Cert.Hand.rangeFacts,
  Cert.Hand.frame_kernel, Cert.Hand.frame_ideal, Cert.Hand.frame_ideal_range, Cert.Hand.frame_reference, Cert.Hand.frame_reference_range,
  Cert.Hand.preserves, Cert.Hand.algebraic⟩

end Cert.Proof

end
